-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_set_up [hPre_as_set_up : Cert.Pre_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_set_up [hPre_as_set_up : Cert.Pre_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_KernelIdeal_pre_as_set_up [hKernelIdeal : Cert.KernelIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def quiescent_ReferenceIdeal_pre_as_set_up [hReferenceIdeal : Cert.ReferenceIdeal.Facts] [hPre_as_set_up : Cert.Pre_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def preserves_Kernel_KernelIdeal : Prop :=
  True

def algebraic_KernelIdeal_ReferenceIdeal_pre_as_set_up [hKernelIdeal : Cert.KernelIdeal.Facts] [hReferenceIdeal : Cert.ReferenceIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_as_set_up : Cert.Pre_as_set_up.Facts),
    quiescent_Kernel (hKernel := hKernel)
    ∧ quiescent_KernelIdeal (hKernelIdeal := hKernelIdeal)
    ∧ quiescent_KernelIdeal_pre_as_set_up (hKernelIdeal := hKernelIdeal) (hPre_as_set_up := hPre_as_set_up)
    ∧ quiescent_ReferenceIdeal (hReferenceIdeal := hReferenceIdeal)
    ∧ quiescent_ReferenceIdeal_pre_as_set_up (hReferenceIdeal := hReferenceIdeal) (hPre_as_set_up := hPre_as_set_up)
    ∧ preserves_Kernel_KernelIdeal
    ∧ algebraic_KernelIdeal_ReferenceIdeal_pre_as_set_up (hKernelIdeal := hKernelIdeal) (hReferenceIdeal := hReferenceIdeal) (hPre_as_set_up := hPre_as_set_up)
-- ==== Pre_as_set_up.lean ====
abbrev S8x4096x3 : Shape := ⟨3, ![8, 4096, 3]⟩
abbrev S8x128 : Shape := ⟨2, ![8, 128]⟩
abbrev S8x3x128x128x32 : Shape := ⟨5, ![8, 3, 128, 128, 32]⟩
abbrev S8x3x4x3 : Shape := ⟨4, ![8, 3, 4, 3]⟩
abbrev S256x3 : Shape := ⟨2, ![256, 3]⟩
abbrev S256 : Shape := ⟨1, ![256]⟩
abbrev S32x256 : Shape := ⟨2, ![32, 256]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S8x3x4x3 : S_.BroadcastsInDim S8x3x4x3 (![] : Fin 0 → Fin S8x3x4x3.rank)
  bcast_S_S256 : S_.BroadcastsInDim S256 (![] : Fin 0 → Fin S256.rank)
  bcast_S_S32 : S_.BroadcastsInDim S32 (![] : Fin 0 → Fin S32.rank)
  bcast_S_S1 : S_.BroadcastsInDim S1 (![] : Fin 0 → Fin S1.rank)
  bcast_S_S8x4096x3 : S_.BroadcastsInDim S8x4096x3 (![] : Fin 0 → Fin S8x4096x3.rank)
  bcast_S_S256x3 : S_.BroadcastsInDim S256x3 (![] : Fin 0 → Fin S256x3.rank)
  bcast_S_S32x256 : S_.BroadcastsInDim S32x256 (![] : Fin 0 → Fin S32x256.rank)

variable [Facts]

def fn_part2 {F : FTy → Type} [FloatOps F] (main_v1 : IVec S8x3x4x3 1) (main_v3 : IVec S256 1) (main_v5 : IVec S32 1) (main_v7 : IVec S32 1) (main_v9 : IVec S32 1) (main_v11 : IVec S32 1) (main_v13 : IVec S32 1) (main_v15 : IVec S32 1) (main_v17 : IVec S32 1) (main_v19 : IVec S32 1) (main_v21 : IVec S32 1) (main_v23 : IVec S32 1) (main_v25 : IVec S1 1) (main_v28 : IVec S8x4096x3 1) (main_v31 : IVec S256x3 1) (main_v32 : FVec F S32x256 .f32) : IVec S8x3x4x3 1 × IVec S256 1 × IVec S32 1 × IVec S32 1 × IVec S32 1 × IVec S32 1 × IVec S32 1 × IVec S32 1 × IVec S32 1 × IVec S32 1 × IVec S32 1 × IVec S32 1 × IVec S1 1 × IVec S8x4096x3 1 × IVec S256x3 1 × IVec S32x256 1 :=
  let main_cst_14 : FVec F S_ .f32 := constant S_ .f32 0x7F800000#32
  let main_v33 : FVec F S32x256 .f32 := broadcastInDim S32x256 ![] bcast_S_S32x256 main_cst_14
  let main_v34 : IVec S32x256 1 := cmpf .olt main_v32 main_v33
  (main_v1, main_v3, main_v5, main_v7, main_v9, main_v11, main_v13, main_v15, main_v17, main_v19, main_v21, main_v23, main_v25, main_v28, main_v31, main_v34)

def fn_part1 {F : FTy → Type} [FloatOps F] (main_arg0 : FVec F S8x4096x3 .f32) (main_arg4 : FVec F S256x3 .f32) (main_arg10 : FVec F S32x256 .f32) (main_arg20 : FVec F S32 .f32) (main_arg22 : FVec F S32 .f32) (main_arg24 : FVec F S32 .f32) (main_arg26 : FVec F S32 .f32) (main_arg28 : FVec F S1 .f32) (main_v1 : IVec S8x3x4x3 1) (main_v3 : IVec S256 1) (main_v5 : IVec S32 1) (main_v7 : IVec S32 1) (main_v9 : IVec S32 1) (main_v11 : IVec S32 1) (main_v13 : IVec S32 1) (main_v15 : IVec S32 1) : IVec S8x3x4x3 1 × IVec S256 1 × IVec S32 1 × IVec S32 1 × IVec S32 1 × IVec S32 1 × IVec S32 1 × IVec S32 1 × IVec S32 1 × IVec S32 1 × IVec S32 1 × IVec S32 1 × IVec S1 1 × IVec S8x4096x3 1 × IVec S256x3 1 × IVec S32x256 1 :=
  let main_cst_7 : FVec F S_ .f32 := constant S_ .f32 0x00000000#32
  let main_v16 : FVec F S32 .f32 := broadcastInDim S32 ![] bcast_S_S32 main_cst_7
  let main_v17 : IVec S32 1 := cmpf .oeq main_arg20 main_v16
  let main_cst_8 : FVec F S_ .f32 := constant S_ .f32 0x00000000#32
  let main_v18 : FVec F S32 .f32 := broadcastInDim S32 ![] bcast_S_S32 main_cst_8
  let main_v19 : IVec S32 1 := cmpf .oeq main_arg22 main_v18
  let main_cst_9 : FVec F S_ .f32 := constant S_ .f32 0x00000000#32
  let main_v20 : FVec F S32 .f32 := broadcastInDim S32 ![] bcast_S_S32 main_cst_9
  let main_v21 : IVec S32 1 := cmpf .oeq main_arg24 main_v20
  let main_cst_10 : FVec F S_ .f32 := constant S_ .f32 0x00000000#32
  let main_v22 : FVec F S32 .f32 := broadcastInDim S32 ![] bcast_S_S32 main_cst_10
  let main_v23 : IVec S32 1 := cmpf .oeq main_arg26 main_v22
  let main_cst_11 : FVec F S_ .f32 := constant S_ .f32 0x00000000#32
  let main_v24 : FVec F S1 .f32 := broadcastInDim S1 ![] bcast_S_S1 main_cst_11
  let main_v25 : IVec S1 1 := cmpf .oeq main_arg28 main_v24
  let main_v26 : FVec F S8x4096x3 .f32 := Host.absf main_arg0
  let main_cst_12 : FVec F S_ .f32 := constant S_ .f32 0x7F800000#32
  let main_v27 : FVec F S8x4096x3 .f32 := broadcastInDim S8x4096x3 ![] bcast_S_S8x4096x3 main_cst_12
  let main_v28 : IVec S8x4096x3 1 := cmpf .olt main_v26 main_v27
  let main_v29 : FVec F S256x3 .f32 := Host.absf main_arg4
  let main_cst_13 : FVec F S_ .f32 := constant S_ .f32 0x7F800000#32
  let main_v30 : FVec F S256x3 .f32 := broadcastInDim S256x3 ![] bcast_S_S256x3 main_cst_13
  let main_v31 : IVec S256x3 1 := cmpf .olt main_v29 main_v30
  let main_v32 : FVec F S32x256 .f32 := Host.absf main_arg10
  fn_part2 (F := F) main_v1 main_v3 main_v5 main_v7 main_v9 main_v11 main_v13 main_v15 main_v17 main_v19 main_v21 main_v23 main_v25 main_v28 main_v31 main_v32

def fn {F : FTy → Type} [FloatOps F] (main_arg0 : FVec F S8x4096x3 .f32) (main_arg1 : FVec F S8x128 .f32) (main_arg2 : FVec F S8x3x128x128x32 .f32) (main_arg3 : FVec F S8x3x4x3 .f32) (main_arg4 : FVec F S256x3 .f32) (main_arg5 : FVec F S256 .f32) (main_arg6 : FVec F S32x256 .f32) (main_arg7 : FVec F S32 .f32) (main_arg8 : FVec F S32x32 .f32) (main_arg9 : FVec F S32 .f32) (main_arg10 : FVec F S32x256 .f32) (main_arg11 : FVec F S32x32 .f32) (main_arg12 : FVec F S32 .f32) (main_arg13 : FVec F S32x32 .f32) (main_arg14 : FVec F S32 .f32) (main_arg15 : FVec F S32x32 .f32) (main_arg16 : FVec F S32 .f32) (main_arg17 : FVec F S32x32 .f32) (main_arg18 : FVec F S32 .f32) (main_arg19 : FVec F S32x32 .f32) (main_arg20 : FVec F S32 .f32) (main_arg21 : FVec F S32x32 .f32) (main_arg22 : FVec F S32 .f32) (main_arg23 : FVec F S32x32 .f32) (main_arg24 : FVec F S32 .f32) (main_arg25 : FVec F S32x32 .f32) (main_arg26 : FVec F S32 .f32) (main_arg27 : FVec F S1x32 .f32) (main_arg28 : FVec F S1 .f32) : IVec S8x3x4x3 1 × IVec S256 1 × IVec S32 1 × IVec S32 1 × IVec S32 1 × IVec S32 1 × IVec S32 1 × IVec S32 1 × IVec S32 1 × IVec S32 1 × IVec S32 1 × IVec S32 1 × IVec S1 1 × IVec S8x4096x3 1 × IVec S256x3 1 × IVec S32x256 1 :=
  let main_cst : FVec F S_ .f32 := constant S_ .f32 0x00000000#32
  let main_v0 : FVec F S8x3x4x3 .f32 := broadcastInDim S8x3x4x3 ![] bcast_S_S8x3x4x3 main_cst
  let main_v1 : IVec S8x3x4x3 1 := cmpf .oeq main_arg3 main_v0
  let main_cst_0 : FVec F S_ .f32 := constant S_ .f32 0x00000000#32
  let main_v2 : FVec F S256 .f32 := broadcastInDim S256 ![] bcast_S_S256 main_cst_0
  let main_v3 : IVec S256 1 := cmpf .oeq main_arg5 main_v2
  let main_cst_1 : FVec F S_ .f32 := constant S_ .f32 0x00000000#32
  let main_v4 : FVec F S32 .f32 := broadcastInDim S32 ![] bcast_S_S32 main_cst_1
  let main_v5 : IVec S32 1 := cmpf .oeq main_arg7 main_v4
  let main_cst_2 : FVec F S_ .f32 := constant S_ .f32 0x00000000#32
  let main_v6 : FVec F S32 .f32 := broadcastInDim S32 ![] bcast_S_S32 main_cst_2
  let main_v7 : IVec S32 1 := cmpf .oeq main_arg9 main_v6
  let main_cst_3 : FVec F S_ .f32 := constant S_ .f32 0x00000000#32
  let main_v8 : FVec F S32 .f32 := broadcastInDim S32 ![] bcast_S_S32 main_cst_3
  let main_v9 : IVec S32 1 := cmpf .oeq main_arg12 main_v8
  let main_cst_4 : FVec F S_ .f32 := constant S_ .f32 0x00000000#32
  let main_v10 : FVec F S32 .f32 := broadcastInDim S32 ![] bcast_S_S32 main_cst_4
  let main_v11 : IVec S32 1 := cmpf .oeq main_arg14 main_v10
  let main_cst_5 : FVec F S_ .f32 := constant S_ .f32 0x00000000#32
  let main_v12 : FVec F S32 .f32 := broadcastInDim S32 ![] bcast_S_S32 main_cst_5
  let main_v13 : IVec S32 1 := cmpf .oeq main_arg16 main_v12
  let main_cst_6 : FVec F S_ .f32 := constant S_ .f32 0x00000000#32
  let main_v14 : FVec F S32 .f32 := broadcastInDim S32 ![] bcast_S_S32 main_cst_6
  let main_v15 : IVec S32 1 := cmpf .oeq main_arg18 main_v14
  fn_part1 (F := F) main_arg0 main_arg4 main_arg10 main_arg20 main_arg22 main_arg24 main_arg26 main_arg28 main_v1 main_v3 main_v5 main_v7 main_v9 main_v11 main_v13 main_v15
-- ==== Kernel.lean ====
abbrev S8x4096x3 : Shape := ⟨3, ![8, 4096, 3]⟩
abbrev S8x128 : Shape := ⟨2, ![8, 128]⟩
abbrev S8x3x128x128x32 : Shape := ⟨5, ![8, 3, 128, 128, 32]⟩
abbrev S8x3x4x3 : Shape := ⟨4, ![8, 3, 4, 3]⟩
abbrev S256x3 : Shape := ⟨2, ![256, 3]⟩
abbrev S256 : Shape := ⟨1, ![256]⟩
abbrev S32x256 : Shape := ⟨2, ![32, 256]⟩
abbrev S32 : Shape := ⟨1, ![32]⟩
abbrev S32x32 : Shape := ⟨2, ![32, 32]⟩
abbrev S1x32 : Shape := ⟨2, ![1, 32]⟩
abbrev S1 : Shape := ⟨1, ![1]⟩
abbrev S8x3x2x2x32 : Shape := ⟨5, ![8, 3, 2, 2, 32]⟩
abbrev S8x4096 : Shape := ⟨2, ![8, 4096]⟩
abbrev S1024x12 : Shape := ⟨2, ![1024, 12]⟩
abbrev S128x1024 : Shape := ⟨2, ![128, 1024]⟩
abbrev S128x12 : Shape := ⟨2, ![128, 12]⟩
abbrev S9x128x128 : Shape := ⟨3, ![9, 128, 128]⟩
abbrev S4x128 : Shape := ⟨2, ![4, 128]⟩
abbrev S32x3 : Shape := ⟨2, ![32, 3]⟩
abbrev S1x32x32 : Shape := ⟨3, ![1, 32, 32]⟩
abbrev S1x1x1x1x32 : Shape := ⟨5, ![1, 1, 1, 1, 32]⟩
abbrev S1x128 : Shape := ⟨2, ![1, 128]⟩
abbrev S1x4096x3 : Shape := ⟨3, ![1, 4096, 3]⟩
abbrev S4096x3 : Shape := ⟨2, ![4096, 3]⟩
abbrev S1024x3 : Shape := ⟨2, ![1024, 3]⟩
abbrev S1024x1024 : Shape := ⟨2, ![1024, 1024]⟩
abbrev S1024x128 : Shape := ⟨2, ![1024, 128]⟩
abbrev S1x128x128 : Shape := ⟨3, ![1, 128, 128]⟩
abbrev S128x128 : Shape := ⟨2, ![128, 128]⟩
abbrev S4x1024 : Shape := ⟨2, ![4, 1024]⟩
abbrev S1x1024 : Shape := ⟨2, ![1, 1024]⟩
abbrev S1x4096 : Shape := ⟨2, ![1, 4096]⟩

abbrev nBuf : Space → Nat
  | .hbm => 31
  | .vmem => 21
  | .smem => 0
  | _ => 0

abbrev bufTy : (tb : Table) → Fin (tcTables nBuf tb) → BufTy
  | .hbm, ⟨0, _⟩ => ⟨S8x4096x3, .f32⟩
  | .hbm, ⟨1, _⟩ => ⟨S8x128, .f32⟩
  | .hbm, ⟨2, _⟩ => ⟨S8x3x128x128x32, .f32⟩
  | .hbm, ⟨3, _⟩ => ⟨S8x3x4x3, .f32⟩
  | .hbm, ⟨4, _⟩ => ⟨S256x3, .f32⟩
  | .hbm, ⟨5, _⟩ => ⟨S256, .f32⟩
  | .hbm, ⟨6, _⟩ => ⟨S32x256, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x256, .f32⟩
  | .hbm, ⟨11, _⟩ => ⟨S32x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32x32, .f32⟩
  | .hbm, ⟨16, _⟩ => ⟨S32, .f32⟩
  | .hbm, ⟨17, _⟩ => ⟨S32x32, .f32⟩
  | .hbm, ⟨18, _⟩ => ⟨S32, .f32⟩
  | .hbm, ⟨19, _⟩ => ⟨S32x32, .f32⟩
  | .hbm, ⟨20, _⟩ => ⟨S32, .f32⟩
  | .hbm, ⟨21, _⟩ => ⟨S32x32, .f32⟩
  | .hbm, ⟨22, _⟩ => ⟨S32, .f32⟩
  | .hbm, ⟨23, _⟩ => ⟨S32x32, .f32⟩
  | .hbm, ⟨24, _⟩ => ⟨S32, .f32⟩
  | .hbm, ⟨25, _⟩ => ⟨S32x32, .f32⟩
  | .hbm, ⟨26, _⟩ => ⟨S32, .f32⟩
  | .hbm, ⟨27, _⟩ => ⟨S1x32, .f32⟩
  | .hbm, ⟨28, _⟩ => ⟨S1, .f32⟩
  | .hbm, ⟨29, _⟩ => ⟨S8x3x2x2x32, .f32⟩
  | .hbm, ⟨30, _⟩ => ⟨S8x4096, .f32⟩
  | .local _ .vmem, ⟨0, _⟩ => ⟨S8x4096x3, .f32⟩
  | .local _ .vmem, ⟨1, _⟩ => ⟨S8x3x2x2x32, .f32⟩
  | .local _ .vmem, ⟨2, _⟩ => ⟨S256x3, .f32⟩
  | .local _ .vmem, ⟨3, _⟩ => ⟨S32x256, .f32⟩
  | .local _ .vmem, ⟨4, _⟩ => ⟨S32x32, .f32⟩
  | .local _ .vmem, ⟨5, _⟩ => ⟨S32x256, .f32⟩
  | .local _ .vmem, ⟨6, _⟩ => ⟨S32x32, .f32⟩
  | .local _ .vmem, ⟨7, _⟩ => ⟨S32x32, .f32⟩
  | .local _ .vmem, ⟨8, _⟩ => ⟨S32x32, .f32⟩
  | .local _ .vmem, ⟨9, _⟩ => ⟨S32x32, .f32⟩
  | .local _ .vmem, ⟨10, _⟩ => ⟨S32x32, .f32⟩
  | .local _ .vmem, ⟨11, _⟩ => ⟨S32x32, .f32⟩
  | .local _ .vmem, ⟨12, _⟩ => ⟨S32x32, .f32⟩
  | .local _ .vmem, ⟨13, _⟩ => ⟨S32x32, .f32⟩
  | .local _ .vmem, ⟨14, _⟩ => ⟨S1x32, .f32⟩
  | .local _ .vmem, ⟨15, _⟩ => ⟨S8x4096, .f32⟩
  | .local _ .vmem, ⟨16, _⟩ => ⟨S1024x12, .f32⟩
  | .local _ .vmem, ⟨17, _⟩ => ⟨S128x1024, .f32⟩
  | .local _ .vmem, ⟨18, _⟩ => ⟨S128x12, .f32⟩
  | .local _ .vmem, ⟨19, _⟩ => ⟨S9x128x128, .f32⟩
  | .local _ .vmem, ⟨20, _⟩ => ⟨S4x128, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S8x4096x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x3x2x2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ReferenceIdeal.lean ====
abbrev S8x4096x3 : Shape := ⟨3, ![8, 4096, 3]⟩
abbrev S8x128 : Shape := ⟨2, ![8, 128]⟩
abbrev S8x3x128x128x32 : Shape := ⟨5, ![8, 3, 128, 128, 32]⟩
abbrev S8x3x4x3 : Shape := ⟨4, ![8, 3, 4, 3]⟩
abbrev S256x3 : Shape := ⟨2, ![256, 3]⟩
abbrev S256 : Shape := ⟨1, ![256]⟩
abbrev S32x256 : Shape := ⟨2, ![32, 256]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩
abbrev S8x3x3x3 : Shape := ⟨4, ![8, 3, 3, 3]⟩
abbrev S8x4096x3x3 : Shape := ⟨4, ![8, 4096, 3, 3]⟩
abbrev S8x3x4096x3 : Shape := ⟨4, ![8, 3, 4096, 3]⟩
abbrev S8x3x1x1 : Shape := ⟨4, ![8, 3, 1, 1]⟩
abbrev S8x3 : Shape := ⟨2, ![8, 3]⟩
abbrev S8x3x4096x2 : Shape := ⟨4, ![8, 3, 4096, 2]⟩
abbrev S8x3x4096x1 : Shape := ⟨4, ![8, 3, 4096, 1]⟩
abbrev S8x3x4096 : Shape := ⟨3, ![8, 3, 4096]⟩
abbrev S8 : Shape := ⟨1, ![8]⟩
abbrev S8x1x1 : Shape := ⟨3, ![8, 1, 1]⟩
abbrev S3 : Shape := ⟨1, ![3]⟩
abbrev S1x3x1 : Shape := ⟨3, ![1, 3, 1]⟩
abbrev S8x3x4096x4 : Shape := ⟨4, ![8, 3, 4096, 4]⟩
abbrev S8x3x4096x32 : Shape := ⟨4, ![8, 3, 4096, 32]⟩
abbrev S8x4096x32 : Shape := ⟨3, ![8, 4096, 32]⟩
abbrev S8x4096x256 : Shape := ⟨3, ![8, 4096, 256]⟩
abbrev S1x1x256 : Shape := ⟨3, ![1, 1, 256]⟩
abbrev S256x32 : Shape := ⟨2, ![256, 32]⟩
abbrev S1x1x32 : Shape := ⟨3, ![1, 1, 32]⟩
abbrev S8x4096x1 : Shape := ⟨3, ![8, 4096, 1]⟩
abbrev S1x1x1 : Shape := ⟨3, ![1, 1, 1]⟩
abbrev S8x4096 : Shape := ⟨2, ![8, 4096]⟩

abbrev nBuf : Space → Nat
  | .hbm => 356
  | .vmem => 0
  | .smem => 0
  | _ => 0

abbrev hbmTy0_0 (i : Nat) : BufTy := match i % 128 with
  | 0 => ⟨S8x4096x3, .f32⟩
  | 1 => ⟨S8x128, .f32⟩
  | 2 => ⟨S8x3x128x128x32, .f32⟩
  | 3 => ⟨S8x3x4x3, .f32⟩
  | 4 => ⟨S256x3, .f32⟩
  | 5 => ⟨S256, .f32⟩
  | 6 => ⟨S32x256, .f32⟩
  | 7 => ⟨S32, .f32⟩
  | 8 => ⟨S32x32, .f32⟩
  | 9 => ⟨S32, .f32⟩
  | 10 => ⟨S32x256, .f32⟩
  | 11 => ⟨S32x32, .f32⟩
  | 12 => ⟨S32, .f32⟩
  | 13 => ⟨S32x32, .f32⟩
  | 14 => ⟨S32, .f32⟩
  | 15 => ⟨S32x32, .f32⟩
  | 16 => ⟨S32, .f32⟩
  | 17 => ⟨S32x32, .f32⟩
  | 18 => ⟨S32, .f32⟩
  | 19 => ⟨S32x32, .f32⟩
  | 20 => ⟨S32, .f32⟩
  | 21 => ⟨S32x32, .f32⟩
  | 22 => ⟨S32, .f32⟩
  | 23 => ⟨S32x32, .f32⟩
  | 24 => ⟨S32, .f32⟩
  | 25 => ⟨S32x32, .f32⟩
  | 26 => ⟨S32, .f32⟩
  | 27 => ⟨S1x32, .f32⟩
  | 28 => ⟨S1, .f32⟩
  | 29 => ⟨S_, .f32⟩
  | 30 => ⟨S_, .f32⟩
  | 31 => ⟨S_, .f32⟩
  | 32 => ⟨S_, .f32⟩
  | 33 => ⟨S8x4096x3, .f32⟩
  | 34 => ⟨S8x4096x3, .f32⟩
  | 35 => ⟨S8x3x3x3, .f32⟩
  | 36 => ⟨S8x4096x3x3, .f32⟩
  | 37 => ⟨S8x3x4096x3, .f32⟩
  | 38 => ⟨S8x3x1x1, .f32⟩
  | 39 => ⟨S8x3, .f32⟩
  | 40 => ⟨S_, .f32⟩
  | 41 => ⟨S8x3, .f32⟩
  | 42 => ⟨S8x3, .f32⟩
  | 43 => ⟨S8x3x1x1, .f32⟩
  | 44 => ⟨S8x3x4096x3, .f32⟩
  | 45 => ⟨S8x3x4096x3, .f32⟩
  | 46 => ⟨S8x3x4096x2, .f32⟩
  | 47 => ⟨S_, .f32⟩
  | 48 => ⟨S8x3x4096x2, .f32⟩
  | 49 => ⟨S8x3x4096x2, .f32⟩
  | 50 => ⟨S_, .f32⟩
  | 51 => ⟨S8x3x4096x2, .f32⟩
  | 52 => ⟨S8x3x4096x2, .f32⟩
  | 53 => ⟨S8x3x4096x1, .f32⟩
  | 54 => ⟨S8x3x4096, .f32⟩
  | 55 => ⟨S8x3x4096x1, .f32⟩
  | 56 => ⟨S8x3x4096, .f32⟩
  | 57 => ⟨S8x3x4096, .f32⟩
  | 58 => ⟨S8x3x4096, .i32⟩
  | 59 => ⟨S8x3x4096, .f32⟩
  | 60 => ⟨S8x3x4096, .i32⟩
  | 61 => ⟨S8x3x4096, .f32⟩
  | 62 => ⟨S8x3x4096, .i32⟩
  | 63 => ⟨S8x3x4096, .f32⟩
  | 64 => ⟨S8x3x4096, .i32⟩
  | 65 => ⟨S8x3x4096, .f32⟩
  | 66 => ⟨S8x3x4096, .f32⟩
  | 67 => ⟨S8x3x4096x1, .f32⟩
  | 68 => ⟨S8x3x4096, .f32⟩
  | 69 => ⟨S8x3x4096, .f32⟩
  | 70 => ⟨S8x3x4096x1, .f32⟩
  | 71 => ⟨S8, .i32⟩
  | 72 => ⟨S8x1x1, .i32⟩
  | 73 => ⟨S3, .i32⟩
  | 74 => ⟨S1x3x1, .i32⟩
  | 75 => ⟨S_, .i32⟩
  | 76 => ⟨S8x1x1, .i32⟩
  | 77 => ⟨S8x1x1, .i1⟩
  | 78 => ⟨S_, .i32⟩
  | 79 => ⟨S8x1x1, .i32⟩
  | 80 => ⟨S8x1x1, .i32⟩
  | 81 => ⟨S8x1x1, .i32⟩
  | 82 => ⟨S_, .i32⟩
  | 83 => ⟨S1x3x1, .i32⟩
  | 84 => ⟨S1x3x1, .i1⟩
  | 85 => ⟨S_, .i32⟩
  | 86 => ⟨S1x3x1, .i32⟩
  | 87 => ⟨S1x3x1, .i32⟩
  | 88 => ⟨S1x3x1, .i32⟩
  | 89 => ⟨S_, .i32⟩
  | 90 => ⟨S8x3x4096, .i32⟩
  | 91 => ⟨S8x3x4096, .i1⟩
  | 92 => ⟨S_, .i32⟩
  | 93 => ⟨S8x3x4096, .i32⟩
  | 94 => ⟨S8x3x4096, .i32⟩
  | 95 => ⟨S8x3x4096, .i32⟩
  | 96 => ⟨S_, .i32⟩
  | 97 => ⟨S8x3x4096, .i32⟩
  | 98 => ⟨S8x3x4096, .i1⟩
  | 99 => ⟨S_, .i32⟩
  | 100 => ⟨S8x3x4096, .i32⟩
  | 101 => ⟨S8x3x4096, .i32⟩
  | 102 => ⟨S8x3x4096, .i32⟩
  | 103 => ⟨S8x3x4096, .i32⟩
  | 104 => ⟨S8x3x4096, .i32⟩
  | 105 => ⟨S8x3x4096x1, .i32⟩
  | 106 => ⟨S8x3x4096x1, .i32⟩
  | 107 => ⟨S8x3x4096x1, .i32⟩
  | 108 => ⟨S8x3x4096x1, .i32⟩
  | 109 => ⟨S8x3x4096x4, .i32⟩
  | 110 => ⟨S8x3x4096x32, .f32⟩
  | 111 => ⟨S_, .i32⟩
  | 112 => ⟨S8x1x1, .i32⟩
  | 113 => ⟨S8x1x1, .i1⟩
  | 114 => ⟨S_, .i32⟩
  | 115 => ⟨S8x1x1, .i32⟩
  | 116 => ⟨S8x1x1, .i32⟩
  | 117 => ⟨S8x1x1, .i32⟩
  | 118 => ⟨S_, .i32⟩
  | 119 => ⟨S1x3x1, .i32⟩
  | 120 => ⟨S1x3x1, .i1⟩
  | 121 => ⟨S_, .i32⟩
  | 122 => ⟨S1x3x1, .i32⟩
  | 123 => ⟨S1x3x1, .i32⟩
  | 124 => ⟨S1x3x1, .i32⟩
  | 125 => ⟨S_, .i32⟩
  | 126 => ⟨S8x3x4096, .i32⟩
  | 127 => ⟨S8x3x4096, .i1⟩
  | _ => ⟨S8x4096x3, .f32⟩

abbrev hbmTy0_1 (i : Nat) : BufTy := match i % 128 with
  | 0 => ⟨S_, .i32⟩
  | 1 => ⟨S8x3x4096, .i32⟩
  | 2 => ⟨S8x3x4096, .i32⟩
  | 3 => ⟨S8x3x4096, .i32⟩
  | 4 => ⟨S_, .i32⟩
  | 5 => ⟨S8x3x4096, .i32⟩
  | 6 => ⟨S8x3x4096, .i1⟩
  | 7 => ⟨S_, .i32⟩
  | 8 => ⟨S8x3x4096, .i32⟩
  | 9 => ⟨S8x3x4096, .i32⟩
  | 10 => ⟨S8x3x4096, .i32⟩
  | 11 => ⟨S8x3x4096, .i32⟩
  | 12 => ⟨S8x3x4096, .i32⟩
  | 13 => ⟨S8x3x4096x1, .i32⟩
  | 14 => ⟨S8x3x4096x1, .i32⟩
  | 15 => ⟨S8x3x4096x1, .i32⟩
  | 16 => ⟨S8x3x4096x1, .i32⟩
  | 17 => ⟨S8x3x4096x4, .i32⟩
  | 18 => ⟨S8x3x4096x32, .f32⟩
  | 19 => ⟨S_, .i32⟩
  | 20 => ⟨S8x1x1, .i32⟩
  | 21 => ⟨S8x1x1, .i1⟩
  | 22 => ⟨S_, .i32⟩
  | 23 => ⟨S8x1x1, .i32⟩
  | 24 => ⟨S8x1x1, .i32⟩
  | 25 => ⟨S8x1x1, .i32⟩
  | 26 => ⟨S_, .i32⟩
  | 27 => ⟨S1x3x1, .i32⟩
  | 28 => ⟨S1x3x1, .i1⟩
  | 29 => ⟨S_, .i32⟩
  | 30 => ⟨S1x3x1, .i32⟩
  | 31 => ⟨S1x3x1, .i32⟩
  | 32 => ⟨S1x3x1, .i32⟩
  | 33 => ⟨S_, .i32⟩
  | 34 => ⟨S8x3x4096, .i32⟩
  | 35 => ⟨S8x3x4096, .i1⟩
  | 36 => ⟨S_, .i32⟩
  | 37 => ⟨S8x3x4096, .i32⟩
  | 38 => ⟨S8x3x4096, .i32⟩
  | 39 => ⟨S8x3x4096, .i32⟩
  | 40 => ⟨S_, .i32⟩
  | 41 => ⟨S8x3x4096, .i32⟩
  | 42 => ⟨S8x3x4096, .i1⟩
  | 43 => ⟨S_, .i32⟩
  | 44 => ⟨S8x3x4096, .i32⟩
  | 45 => ⟨S8x3x4096, .i32⟩
  | 46 => ⟨S8x3x4096, .i32⟩
  | 47 => ⟨S8x3x4096, .i32⟩
  | 48 => ⟨S8x3x4096, .i32⟩
  | 49 => ⟨S8x3x4096x1, .i32⟩
  | 50 => ⟨S8x3x4096x1, .i32⟩
  | 51 => ⟨S8x3x4096x1, .i32⟩
  | 52 => ⟨S8x3x4096x1, .i32⟩
  | 53 => ⟨S8x3x4096x4, .i32⟩
  | 54 => ⟨S8x3x4096x32, .f32⟩
  | 55 => ⟨S_, .i32⟩
  | 56 => ⟨S8x1x1, .i32⟩
  | 57 => ⟨S8x1x1, .i1⟩
  | 58 => ⟨S_, .i32⟩
  | 59 => ⟨S8x1x1, .i32⟩
  | 60 => ⟨S8x1x1, .i32⟩
  | 61 => ⟨S8x1x1, .i32⟩
  | 62 => ⟨S_, .i32⟩
  | 63 => ⟨S1x3x1, .i32⟩
  | 64 => ⟨S1x3x1, .i1⟩
  | 65 => ⟨S_, .i32⟩
  | 66 => ⟨S1x3x1, .i32⟩
  | 67 => ⟨S1x3x1, .i32⟩
  | 68 => ⟨S1x3x1, .i32⟩
  | 69 => ⟨S_, .i32⟩
  | 70 => ⟨S8x3x4096, .i32⟩
  | 71 => ⟨S8x3x4096, .i1⟩
  | 72 => ⟨S_, .i32⟩
  | 73 => ⟨S8x3x4096, .i32⟩
  | 74 => ⟨S8x3x4096, .i32⟩
  | 75 => ⟨S8x3x4096, .i32⟩
  | 76 => ⟨S_, .i32⟩
  | 77 => ⟨S8x3x4096, .i32⟩
  | 78 => ⟨S8x3x4096, .i1⟩
  | 79 => ⟨S_, .i32⟩
  | 80 => ⟨S8x3x4096, .i32⟩
  | 81 => ⟨S8x3x4096, .i32⟩
  | 82 => ⟨S8x3x4096, .i32⟩
  | 83 => ⟨S8x3x4096, .i32⟩
  | 84 => ⟨S8x3x4096, .i32⟩
  | 85 => ⟨S8x3x4096x1, .i32⟩
  | 86 => ⟨S8x3x4096x1, .i32⟩
  | 87 => ⟨S8x3x4096x1, .i32⟩
  | 88 => ⟨S8x3x4096x1, .i32⟩
  | 89 => ⟨S8x3x4096x4, .i32⟩
  | 90 => ⟨S8x3x4096x32, .f32⟩
  | 91 => ⟨S8x3x4096x32, .f32⟩
  | 92 => ⟨S8x3x4096x32, .f32⟩
  | 93 => ⟨S8x3x4096x32, .f32⟩
  | 94 => ⟨S8x3x4096x32, .f32⟩
  | 95 => ⟨S_, .f32⟩
  | 96 => ⟨S8x3x4096x1, .f32⟩
  | 97 => ⟨S8x3x4096x1, .f32⟩
  | 98 => ⟨S8x3x4096x32, .f32⟩
  | 99 => ⟨S8x3x4096x32, .f32⟩
  | 100 => ⟨S8x3x4096x32, .f32⟩
  | 101 => ⟨S8x3x4096x32, .f32⟩
  | 102 => ⟨S8x3x4096x32, .f32⟩
  | 103 => ⟨S8x3x4096x32, .f32⟩
  | 104 => ⟨S8x3x4096x32, .f32⟩
  | 105 => ⟨S_, .f32⟩
  | 106 => ⟨S8x3x4096x1, .f32⟩
  | 107 => ⟨S8x3x4096x1, .f32⟩
  | 108 => ⟨S8x3x4096x32, .f32⟩
  | 109 => ⟨S8x3x4096x32, .f32⟩
  | 110 => ⟨S8x3x4096x32, .f32⟩
  | 111 => ⟨S_, .f32⟩
  | 112 => ⟨S8x3x4096x1, .f32⟩
  | 113 => ⟨S8x3x4096x1, .f32⟩
  | 114 => ⟨S8x3x4096x32, .f32⟩
  | 115 => ⟨S8x3x4096x32, .f32⟩
  | 116 => ⟨S_, .f32⟩
  | 117 => ⟨S8x3x4096x1, .f32⟩
  | 118 => ⟨S8x3x4096x1, .f32⟩
  | 119 => ⟨S8x3x4096x32, .f32⟩
  | 120 => ⟨S8x3x4096x32, .f32⟩
  | 121 => ⟨S8x3x4096x32, .f32⟩
  | 122 => ⟨S_, .f32⟩
  | 123 => ⟨S8x4096x32, .f32⟩
  | 124 => ⟨S8x4096x256, .f32⟩
  | 125 => ⟨S1x1x256, .f32⟩
  | 126 => ⟨S8x4096x256, .f32⟩
  | 127 => ⟨S8x4096x256, .f32⟩
  | _ => ⟨S8x4096x3, .f32⟩

abbrev hbmTy0_2 (i : Nat) : BufTy := match i % 128 with
  | 0 => ⟨S_, .f32⟩
  | 1 => ⟨S8x4096x256, .f32⟩
  | 2 => ⟨S8x4096x256, .f32⟩
  | 3 => ⟨S256x32, .f32⟩
  | 4 => ⟨S8x4096x32, .f32⟩
  | 5 => ⟨S1x1x32, .f32⟩
  | 6 => ⟨S8x4096x32, .f32⟩
  | 7 => ⟨S8x4096x32, .f32⟩
  | 8 => ⟨S_, .f32⟩
  | 9 => ⟨S8x4096x32, .f32⟩
  | 10 => ⟨S8x4096x32, .f32⟩
  | 11 => ⟨S32x32, .f32⟩
  | 12 => ⟨S8x4096x32, .f32⟩
  | 13 => ⟨S1x1x32, .f32⟩
  | 14 => ⟨S8x4096x32, .f32⟩
  | 15 => ⟨S8x4096x32, .f32⟩
  | 16 => ⟨S256x32, .f32⟩
  | 17 => ⟨S8x4096x32, .f32⟩
  | 18 => ⟨S8x4096x32, .f32⟩
  | 19 => ⟨S8x4096x32, .f32⟩
  | 20 => ⟨S_, .f32⟩
  | 21 => ⟨S8x4096x32, .f32⟩
  | 22 => ⟨S8x4096x32, .f32⟩
  | 23 => ⟨S32x32, .f32⟩
  | 24 => ⟨S8x4096x32, .f32⟩
  | 25 => ⟨S1x1x32, .f32⟩
  | 26 => ⟨S8x4096x32, .f32⟩
  | 27 => ⟨S8x4096x32, .f32⟩
  | 28 => ⟨S_, .f32⟩
  | 29 => ⟨S8x4096x32, .f32⟩
  | 30 => ⟨S8x4096x32, .f32⟩
  | 31 => ⟨S32x32, .f32⟩
  | 32 => ⟨S8x4096x32, .f32⟩
  | 33 => ⟨S1x1x32, .f32⟩
  | 34 => ⟨S8x4096x32, .f32⟩
  | 35 => ⟨S8x4096x32, .f32⟩
  | 36 => ⟨S8x4096x32, .f32⟩
  | 37 => ⟨S8x4096x32, .f32⟩
  | 38 => ⟨S_, .f32⟩
  | 39 => ⟨S8x4096x32, .f32⟩
  | 40 => ⟨S8x4096x32, .f32⟩
  | 41 => ⟨S32x32, .f32⟩
  | 42 => ⟨S8x4096x32, .f32⟩
  | 43 => ⟨S1x1x32, .f32⟩
  | 44 => ⟨S8x4096x32, .f32⟩
  | 45 => ⟨S8x4096x32, .f32⟩
  | 46 => ⟨S_, .f32⟩
  | 47 => ⟨S8x4096x32, .f32⟩
  | 48 => ⟨S8x4096x32, .f32⟩
  | 49 => ⟨S32x32, .f32⟩
  | 50 => ⟨S8x4096x32, .f32⟩
  | 51 => ⟨S1x1x32, .f32⟩
  | 52 => ⟨S8x4096x32, .f32⟩
  | 53 => ⟨S8x4096x32, .f32⟩
  | 54 => ⟨S8x4096x32, .f32⟩
  | 55 => ⟨S8x4096x32, .f32⟩
  | 56 => ⟨S_, .f32⟩
  | 57 => ⟨S8x4096x32, .f32⟩
  | 58 => ⟨S8x4096x32, .f32⟩
  | 59 => ⟨S32x32, .f32⟩
  | 60 => ⟨S8x4096x32, .f32⟩
  | 61 => ⟨S1x1x32, .f32⟩
  | 62 => ⟨S8x4096x32, .f32⟩
  | 63 => ⟨S8x4096x32, .f32⟩
  | 64 => ⟨S_, .f32⟩
  | 65 => ⟨S8x4096x32, .f32⟩
  | 66 => ⟨S8x4096x32, .f32⟩
  | 67 => ⟨S32x32, .f32⟩
  | 68 => ⟨S8x4096x32, .f32⟩
  | 69 => ⟨S1x1x32, .f32⟩
  | 70 => ⟨S8x4096x32, .f32⟩
  | 71 => ⟨S8x4096x32, .f32⟩
  | 72 => ⟨S8x4096x32, .f32⟩
  | 73 => ⟨S8x4096x32, .f32⟩
  | 74 => ⟨S_, .f32⟩
  | 75 => ⟨S8x4096x32, .f32⟩
  | 76 => ⟨S8x4096x32, .f32⟩
  | 77 => ⟨S32x32, .f32⟩
  | 78 => ⟨S8x4096x32, .f32⟩
  | 79 => ⟨S1x1x32, .f32⟩
  | 80 => ⟨S8x4096x32, .f32⟩
  | 81 => ⟨S8x4096x32, .f32⟩
  | 82 => ⟨S_, .f32⟩
  | 83 => ⟨S8x4096x32, .f32⟩
  | 84 => ⟨S8x4096x32, .f32⟩
  | 85 => ⟨S32x32, .f32⟩
  | 86 => ⟨S8x4096x32, .f32⟩
  | 87 => ⟨S1x1x32, .f32⟩
  | 88 => ⟨S8x4096x32, .f32⟩
  | 89 => ⟨S8x4096x32, .f32⟩
  | 90 => ⟨S8x4096x32, .f32⟩
  | 91 => ⟨S8x4096x32, .f32⟩
  | 92 => ⟨S_, .f32⟩
  | 93 => ⟨S8x4096x32, .f32⟩
  | 94 => ⟨S8x4096x32, .f32⟩
  | 95 => ⟨S8x4096x1, .f32⟩
  | 96 => ⟨S1x1x1, .f32⟩
  | 97 => ⟨S8x4096x1, .f32⟩
  | 98 => ⟨S8x4096x1, .f32⟩
  | 99 => ⟨S8x4096, .f32⟩
  | _ => ⟨S8x4096x3, .f32⟩

abbrev hbmTy (i : Nat) : BufTy := match i / 128 with
  | 0 => hbmTy0_0 i
  | 1 => hbmTy0_1 i
  | 2 => hbmTy0_2 i
  | _ => ⟨S8x4096x3, .f32⟩

abbrev bufTy : (tb : Table) → Fin (tcTables nBuf tb) → BufTy
  | .hbm, ⟨i, _⟩ => hbmTy i
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_cst_0 : Ref sig .tc := ⟨.hbm, 30, rfl⟩
abbrev main_v0 : Ref sig .tc := ⟨.hbm, 31, rfl⟩
abbrev main_cst_1 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_2 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_3 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_c : Ref sig .tc := ⟨.hbm, 75, rfl⟩
abbrev main_v41 : Ref sig .tc := ⟨.hbm, 76, rfl⟩
abbrev main_v42 : Ref sig .tc := ⟨.hbm, 77, rfl⟩
abbrev main_c_4 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_c_5 : Ref sig .tc := ⟨.hbm, 82, rfl⟩
abbrev main_v46 : Ref sig .tc := ⟨.hbm, 83, rfl⟩
abbrev main_v47 : Ref sig .tc := ⟨.hbm, 84, rfl⟩
abbrev main_c_6 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_7 : Ref sig .tc := ⟨.hbm, 89, rfl⟩
abbrev main_v51 : Ref sig .tc := ⟨.hbm, 90, rfl⟩
abbrev main_v52 : Ref sig .tc := ⟨.hbm, 91, rfl⟩
abbrev main_c_8 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_9 : Ref sig .tc := ⟨.hbm, 96, rfl⟩
abbrev main_v56 : Ref sig .tc := ⟨.hbm, 97, rfl⟩
abbrev main_v57 : Ref sig .tc := ⟨.hbm, 98, rfl⟩
abbrev main_c_10 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c_11 : Ref sig .tc := ⟨.hbm, 111, rfl⟩
abbrev main_v69 : Ref sig .tc := ⟨.hbm, 112, rfl⟩
abbrev main_v70 : Ref sig .tc := ⟨.hbm, 113, rfl⟩
abbrev main_c_12 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_c_13 : Ref sig .tc := ⟨.hbm, 118, rfl⟩
abbrev main_v74 : Ref sig .tc := ⟨.hbm, 119, rfl⟩
abbrev main_v75 : Ref sig .tc := ⟨.hbm, 120, rfl⟩
abbrev main_c_14 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_c_15 : Ref sig .tc := ⟨.hbm, 125, rfl⟩
abbrev main_v79 : Ref sig .tc := ⟨.hbm, 126, rfl⟩
abbrev main_v80 : Ref sig .tc := ⟨.hbm, 127, rfl⟩
abbrev main_c_16 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_c_17 : Ref sig .tc := ⟨.hbm, 132, rfl⟩
abbrev main_v84 : Ref sig .tc := ⟨.hbm, 133, rfl⟩
abbrev main_v85 : Ref sig .tc := ⟨.hbm, 134, rfl⟩
abbrev main_c_18 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_c_19 : Ref sig .tc := ⟨.hbm, 147, rfl⟩
abbrev main_v97 : Ref sig .tc := ⟨.hbm, 148, rfl⟩
abbrev main_v98 : Ref sig .tc := ⟨.hbm, 149, rfl⟩
abbrev main_c_20 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_c_21 : Ref sig .tc := ⟨.hbm, 154, rfl⟩
abbrev main_v102 : Ref sig .tc := ⟨.hbm, 155, rfl⟩
abbrev main_v103 : Ref sig .tc := ⟨.hbm, 156, rfl⟩
abbrev main_c_22 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_c_23 : Ref sig .tc := ⟨.hbm, 161, rfl⟩
abbrev main_v107 : Ref sig .tc := ⟨.hbm, 162, rfl⟩
abbrev main_v108 : Ref sig .tc := ⟨.hbm, 163, rfl⟩
abbrev main_c_24 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_c_25 : Ref sig .tc := ⟨.hbm, 168, rfl⟩
abbrev main_v112 : Ref sig .tc := ⟨.hbm, 169, rfl⟩
abbrev main_v113 : Ref sig .tc := ⟨.hbm, 170, rfl⟩
abbrev main_c_26 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_c_27 : Ref sig .tc := ⟨.hbm, 183, rfl⟩
abbrev main_v125 : Ref sig .tc := ⟨.hbm, 184, rfl⟩
abbrev main_v126 : Ref sig .tc := ⟨.hbm, 185, rfl⟩
abbrev main_c_28 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_c_29 : Ref sig .tc := ⟨.hbm, 190, rfl⟩
abbrev main_v130 : Ref sig .tc := ⟨.hbm, 191, rfl⟩
abbrev main_v131 : Ref sig .tc := ⟨.hbm, 192, rfl⟩
abbrev main_c_30 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_c_31 : Ref sig .tc := ⟨.hbm, 197, rfl⟩
abbrev main_v135 : Ref sig .tc := ⟨.hbm, 198, rfl⟩
abbrev main_v136 : Ref sig .tc := ⟨.hbm, 199, rfl⟩
abbrev main_c_32 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_c_33 : Ref sig .tc := ⟨.hbm, 204, rfl⟩
abbrev main_v140 : Ref sig .tc := ⟨.hbm, 205, rfl⟩
abbrev main_v141 : Ref sig .tc := ⟨.hbm, 206, rfl⟩
abbrev main_c_34 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_cst_35 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_cst_36 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_cst_37 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_cst_38 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_cst_39 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_call0_cst : Ref sig .tc := ⟨.hbm, 256, rfl⟩
abbrev main_call0_v0 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_call1_cst : Ref sig .tc := ⟨.hbm, 264, rfl⟩
abbrev main_call1_v0 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_call2_cst : Ref sig .tc := ⟨.hbm, 276, rfl⟩
abbrev main_call2_v0 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_call3_cst : Ref sig .tc := ⟨.hbm, 284, rfl⟩
abbrev main_call3_v0 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_call4_cst : Ref sig .tc := ⟨.hbm, 294, rfl⟩
abbrev main_call4_v0 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_call5_cst : Ref sig .tc := ⟨.hbm, 302, rfl⟩
abbrev main_call5_v0 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_call6_cst : Ref sig .tc := ⟨.hbm, 312, rfl⟩
abbrev main_call6_v0 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_call7_cst : Ref sig .tc := ⟨.hbm, 320, rfl⟩
abbrev main_call7_v0 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_call8_cst : Ref sig .tc := ⟨.hbm, 330, rfl⟩
abbrev main_call8_v0 : Ref sig .tc := ⟨.hbm, 331, rfl⟩
abbrev main_v243 : Ref sig .tc := ⟨.hbm, 332, rfl⟩
abbrev main_v244 : Ref sig .tc := ⟨.hbm, 333, rfl⟩
abbrev main_v245 : Ref sig .tc := ⟨.hbm, 334, rfl⟩
abbrev main_v246 : Ref sig .tc := ⟨.hbm, 335, rfl⟩
abbrev main_v247 : Ref sig .tc := ⟨.hbm, 336, rfl⟩
abbrev main_v248 : Ref sig .tc := ⟨.hbm, 337, rfl⟩
abbrev main_call9_cst : Ref sig .tc := ⟨.hbm, 338, rfl⟩
abbrev main_call9_v0 : Ref sig .tc := ⟨.hbm, 339, rfl⟩
abbrev main_v249 : Ref sig .tc := ⟨.hbm, 340, rfl⟩
abbrev main_v250 : Ref sig .tc := ⟨.hbm, 341, rfl⟩
abbrev main_v251 : Ref sig .tc := ⟨.hbm, 342, rfl⟩
abbrev main_v252 : Ref sig .tc := ⟨.hbm, 343, rfl⟩
abbrev main_v253 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_call10_cst : Ref sig .tc := ⟨.hbm, 348, rfl⟩
abbrev main_call10_v0 : Ref sig .tc := ⟨.hbm, 349, rfl⟩
abbrev main_v257 : Ref sig .tc := ⟨.hbm, 350, rfl⟩
abbrev main_v258 : Ref sig .tc := ⟨.hbm, 351, rfl⟩
abbrev main_v259 : Ref sig .tc := ⟨.hbm, 352, rfl⟩
abbrev main_v260 : Ref sig .tc := ⟨.hbm, 353, rfl⟩
abbrev main_v261 : Ref sig .tc := ⟨.hbm, 354, rfl⟩
abbrev main_v262 : Ref sig .tc := ⟨.hbm, 355, rfl⟩

abbrev nD : Nat := 1
abbrev τ : Topo := Topo.v7x

variable {F : FTy → Type} [FloatOps F]
-- ==== Proof.SetUp.lean ====
/- The condition the value claim is stated under, read back: the projections and the biases are zero, and the points and the
   two matrices of the first shortcut are finite. -/
module

public import Idealize.ShloMosaic.Lib.Pointwise
public import proofs.«01_k».proof.Defs

@[expose] public section

set_option maxRecDepth 16384

noncomputable section

namespace Cert.SetUp

open Idealize.ShloMosaic Idealize.ShloMosaic.TcCoe Cert.Pre_as_set_up

/-- The side conditions of the condition's own operations. -/
instance facts : Cert.Pre_as_set_up.Facts := by
  constructor <;> decide

/-- The word of 0. -/
theorem zero_ofBits : (Ideal.ofBits .f32 0x00000000#32 : EReal) = 0 := by
  simp [Ideal.ofBits, Ideal.ieee]

/-- The word of infinity. -/
theorem top_ofBits : (Ideal.ofBits .f32 0x7F800000#32 : EReal) = ⊤ := by
  simp [Ideal.ofBits, Ideal.ieee]

/-- A one-bit word of a decided statement is one exactly where the statement holds. -/
theorem of_ofBool {p : Prop} [Decidable p] (h : BitVec.ofBool (decide p) = 1#1) : p := by
  by_contra hp
  rw [decide_eq_false hp] at h
  exact absurd h (by decide)

/-- An array that compares equal to zero everywhere is zero. -/
theorem zero_of {s : Shape} (x : FVec Ideal s .f32) (hb : S_.BroadcastsInDim s (![] : Fin 0 → Fin s.rank))
    (e : cmpf .oeq x (broadcastInDim s ![] hb (constant S_ .f32 0x00000000#32)) = fun _ => 1#1) (i : s.Idx) : x i = (0 : EReal) := by
  have h : BitVec.ofBool (decide ((x i : EReal) = Ideal.ofBits .f32 0x00000000#32)) = 1#1 := congrFun e i
  rw [zero_ofBits] at h
  exact of_ofBool h

/-- An array whose magnitudes compare below infinity everywhere is finite. -/
theorem finite_of {s : Shape} (x : FVec Ideal s .f32) (hb : S_.BroadcastsInDim s (![] : Fin 0 → Fin s.rank))
    (e : cmpf .olt (Host.absf x) (broadcastInDim s ![] hb (constant S_ .f32 0x7F800000#32)) = fun _ => 1#1) (i : s.Idx) :
    ∃ r : ℝ, x i = (r : EReal) := by
  have h : BitVec.ofBool (decide (max (x i : EReal) (-(x i : EReal)) < Ideal.ofBits .f32 0x7F800000#32)) = 1#1 := congrFun e i
  rw [top_ofBits] at h
  have h' := max_lt_iff.mp (of_ofBool h)
  refine ⟨(x i : EReal).toReal, (EReal.coe_toReal h'.1.ne fun hbot => ?_).symm⟩
  rw [hbot] at h'
  exact absurd h'.2 (by simp)

variable (m : (ℓ : Loc Cert.KernelIdeal.nD Cert.KernelIdeal.τ Cert.KernelIdeal.sig) → Buf (Elt Ideal) ℓ)
  (h : Cert.Pre_KernelIdeal_as_set_up m) (c : Dev Cert.KernelIdeal.nD)

include h

/-- Argument 3 is zero. -/
theorem arg3 (i : S8x3x4x3.Idx) : m ((c : Thread Cert.KernelIdeal.nD Cert.KernelIdeal.τ).loc Cert.KernelIdeal.main_arg3) i = (0 : EReal) :=
  zero_of (s := S8x3x4x3) _ facts.bcast_S_S8x3x4x3 (h c).1 i

/-- Argument 5 is zero. -/
theorem arg5 (i : S256.Idx) : m ((c : Thread Cert.KernelIdeal.nD Cert.KernelIdeal.τ).loc Cert.KernelIdeal.main_arg5) i = (0 : EReal) :=
  zero_of (s := S256) _ facts.bcast_S_S256 (h c).2.1 i

/-- Argument 7 is zero. -/
theorem arg7 (i : S32.Idx) : m ((c : Thread Cert.KernelIdeal.nD Cert.KernelIdeal.τ).loc Cert.KernelIdeal.main_arg7) i = (0 : EReal) :=
  zero_of (s := S32) _ facts.bcast_S_S32 (h c).2.2.1 i

/-- Argument 9 is zero. -/
theorem arg9 (i : S32.Idx) : m ((c : Thread Cert.KernelIdeal.nD Cert.KernelIdeal.τ).loc Cert.KernelIdeal.main_arg9) i = (0 : EReal) :=
  zero_of (s := S32) _ facts.bcast_S_S32 (h c).2.2.2.1 i

/-- Argument 12 is zero. -/
theorem arg12 (i : S32.Idx) : m ((c : Thread Cert.KernelIdeal.nD Cert.KernelIdeal.τ).loc Cert.KernelIdeal.main_arg12) i = (0 : EReal) :=
  zero_of (s := S32) _ facts.bcast_S_S32 (h c).2.2.2.2.1 i

/-- Argument 14 is zero. -/
theorem arg14 (i : S32.Idx) : m ((c : Thread Cert.KernelIdeal.nD Cert.KernelIdeal.τ).loc Cert.KernelIdeal.main_arg14) i = (0 : EReal) :=
  zero_of (s := S32) _ facts.bcast_S_S32 (h c).2.2.2.2.2.1 i

/-- Argument 16 is zero. -/
theorem arg16 (i : S32.Idx) : m ((c : Thread Cert.KernelIdeal.nD Cert.KernelIdeal.τ).loc Cert.KernelIdeal.main_arg16) i = (0 : EReal) :=
  zero_of (s := S32) _ facts.bcast_S_S32 (h c).2.2.2.2.2.2.1 i

/-- Argument 18 is zero. -/
theorem arg18 (i : S32.Idx) : m ((c : Thread Cert.KernelIdeal.nD Cert.KernelIdeal.τ).loc Cert.KernelIdeal.main_arg18) i = (0 : EReal) :=
  zero_of (s := S32) _ facts.bcast_S_S32 (h c).2.2.2.2.2.2.2.1 i

/-- Argument 20 is zero. -/
theorem arg20 (i : S32.Idx) : m ((c : Thread Cert.KernelIdeal.nD Cert.KernelIdeal.τ).loc Cert.KernelIdeal.main_arg20) i = (0 : EReal) :=
  zero_of (s := S32) _ facts.bcast_S_S32 (h c).2.2.2.2.2.2.2.2.1 i

/-- Argument 22 is zero. -/
theorem arg22 (i : S32.Idx) : m ((c : Thread Cert.KernelIdeal.nD Cert.KernelIdeal.τ).loc Cert.KernelIdeal.main_arg22) i = (0 : EReal) :=
  zero_of (s := S32) _ facts.bcast_S_S32 (h c).2.2.2.2.2.2.2.2.2.1 i

/-- Argument 24 is zero. -/
theorem arg24 (i : S32.Idx) : m ((c : Thread Cert.KernelIdeal.nD Cert.KernelIdeal.τ).loc Cert.KernelIdeal.main_arg24) i = (0 : EReal) :=
  zero_of (s := S32) _ facts.bcast_S_S32 (h c).2.2.2.2.2.2.2.2.2.2.1 i

/-- Argument 26 is zero. -/
theorem arg26 (i : S32.Idx) : m ((c : Thread Cert.KernelIdeal.nD Cert.KernelIdeal.τ).loc Cert.KernelIdeal.main_arg26) i = (0 : EReal) :=
  zero_of (s := S32) _ facts.bcast_S_S32 (h c).2.2.2.2.2.2.2.2.2.2.2.1 i

/-- Argument 28 is zero. -/
theorem arg28 (i : S1.Idx) : m ((c : Thread Cert.KernelIdeal.nD Cert.KernelIdeal.τ).loc Cert.KernelIdeal.main_arg28) i = (0 : EReal) :=
  zero_of (s := S1) _ facts.bcast_S_S1 (h c).2.2.2.2.2.2.2.2.2.2.2.2.1 i

/-- Argument 0 is finite. -/
theorem arg0 (i : S8x4096x3.Idx) : ∃ r : ℝ, m ((c : Thread Cert.KernelIdeal.nD Cert.KernelIdeal.τ).loc Cert.KernelIdeal.main_arg0) i = (r : EReal) :=
  finite_of (s := S8x4096x3) _ facts.bcast_S_S8x4096x3 (h c).2.2.2.2.2.2.2.2.2.2.2.2.2.1 i

/-- Argument 4 is finite. -/
theorem arg4 (i : S256x3.Idx) : ∃ r : ℝ, m ((c : Thread Cert.KernelIdeal.nD Cert.KernelIdeal.τ).loc Cert.KernelIdeal.main_arg4) i = (r : EReal) :=
  finite_of (s := S256x3) _ facts.bcast_S_S256x3 (h c).2.2.2.2.2.2.2.2.2.2.2.2.2.2.1 i

/-- Argument 10 is finite. -/
theorem arg10 (i : S32x256.Idx) : ∃ r : ℝ, m ((c : Thread Cert.KernelIdeal.nD Cert.KernelIdeal.τ).loc Cert.KernelIdeal.main_arg10) i = (r : EReal) :=
  finite_of (s := S32x256) _ facts.bcast_S_S32x256 (h c).2.2.2.2.2.2.2.2.2.2.2.2.2.2.2 i

end Cert.SetUp

end
-- ==== Proof.Decoder.lean ====
/- What both programs compute, as plain functions of one token: a stack of residual blocks over the extended reals.
   Nothing here speaks of an array of either program. -/
module

public import Idealize.ShloMosaic.PureOps.Ideal.Laws
public import Mathlib.Data.EReal.Operations

@[expose] public section

noncomputable section

namespace Cert.Decoder

open scoped BigOperators

/-- A linear layer: entry `o` of the result is row `o` of the weights times the input. -/
def lin {n k : ℕ} (W : Fin n → Fin k → EReal) (x : Fin k → EReal) : Fin n → EReal := fun o => ∑ j, x j * W o j

/-- The positive part of every entry. -/
def relu {n : ℕ} (x : Fin n → EReal) : Fin n → EReal := fun j => max (x j) 0

/-- The decoder's weights, each a function of its row and column. -/
structure Weights where
  wp : Fin 256 → Fin 3 → EReal
  w00 : Fin 32 → Fin 256 → EReal
  w01 : Fin 32 → Fin 32 → EReal
  ws : Fin 32 → Fin 256 → EReal
  w10 : Fin 32 → Fin 32 → EReal
  w11 : Fin 32 → Fin 32 → EReal
  w20 : Fin 32 → Fin 32 → EReal
  w21 : Fin 32 → Fin 32 → EReal
  w30 : Fin 32 → Fin 32 → EReal
  w31 : Fin 32 → Fin 32 → EReal
  w40 : Fin 32 → Fin 32 → EReal
  w41 : Fin 32 → Fin 32 → EReal
  wout : Fin 32 → EReal

/-- A residual block with a plain shortcut, and the feature vector added after it. -/
def block (A B : Fin 32 → Fin 32 → EReal) (cf net : Fin 32 → EReal) : Fin 32 → EReal :=
  fun o => net o + lin B (relu (lin A (relu net))) o + cf o

/-- The main path of the first block: two layers after the embedding of the point. -/
def main0 (W : Weights) (p : Fin 3 → EReal) : Fin 32 → EReal := lin W.w01 (relu (lin W.w00 (relu (lin W.wp p))))

/-- The first block as defined: its shortcut is a layer over the embedded point. -/
def first (W : Weights) (cf : Fin 32 → EReal) (p : Fin 3 → EReal) : Fin 32 → EReal :=
  fun o => lin W.ws (lin W.wp p) o + main0 W p o + cf o

/-- The product of the shortcut's weights and the embedding's. -/
def wsp (W : Weights) : Fin 32 → Fin 3 → EReal := fun o d => ∑ h, W.ws o h * W.wp h d

/-- The first block with the two matrices of its shortcut multiplied beforehand. -/
def firstFused (W : Weights) (cf : Fin 32 → EReal) (p : Fin 3 → EReal) : Fin 32 → EReal :=
  fun o => lin (wsp W) p o + main0 W p o + cf o

/-- The four later blocks and the output layer. -/
def rest (W : Weights) (cf net : Fin 32 → EReal) : EReal :=
  ∑ d, relu (block W.w40 W.w41 cf (block W.w30 W.w31 cf (block W.w20 W.w21 cf (block W.w10 W.w11 cf net)))) d * W.wout d

/-- A sum of reals, taken among the extended reals. -/
theorem coe_sum {n : ℕ} (f : Fin n → ℝ) : ∑ j, ((f j : ℝ) : EReal) = ((∑ j, f j : ℝ) : EReal) :=
  (map_sum (⟨⟨((↑) : ℝ → EReal), EReal.coe_zero⟩, EReal.coe_add⟩ : ℝ →+ EReal) f Finset.univ).symm

/-- With finite points and weights, multiplying the two matrices of the shortcut first changes nothing. -/
theorem shortcut_eq (W : Weights) (p : Fin 3 → EReal) (hp : ∀ d, ∃ r : ℝ, p d = r) (hw : ∀ h d, ∃ r : ℝ, W.wp h d = r)
    (hs : ∀ o h, ∃ r : ℝ, W.ws o h = r) (o : Fin 32) : lin (wsp W) p o = lin W.ws (lin W.wp p) o := by
  choose p' hp using hp
  choose w' hw using hw
  choose s' hs using hs
  simp only [lin, wsp, hp, hw, hs, ← EReal.coe_mul, coe_sum]
  congr 1
  simp only [Finset.mul_sum, Finset.sum_mul]
  rw [Finset.sum_comm]
  exact Finset.sum_congr rfl fun h _ => Finset.sum_congr rfl fun d _ => by ring

/-- So the two first blocks agree there. -/
theorem firstFused_eq (W : Weights) (cf : Fin 32 → EReal) (p : Fin 3 → EReal) (hp : ∀ d, ∃ r : ℝ, p d = r)
    (hw : ∀ h d, ∃ r : ℝ, W.wp h d = r) (hs : ∀ o h, ∃ r : ℝ, W.ws o h = r) : firstFused W cf p = first W cf p := by
  funext o
  simp only [firstFused, first, shortcut_eq W p hp hw hs o]

/-! ## Four groups side by side -/

/-- Place `d` of group `k`, where four groups of `n` stand side by side. -/
def at4 {n : ℕ} (k : Fin 4) (d : Fin n) : Fin (4 * n) := ⟨n * k.val + d.val, by
  have := k.isLt; have := d.isLt; nlinarith⟩

/-- A sum over four groups is the sum of the groups' sums. -/
theorem sum_at4 {n : ℕ} {M : Type} [AddCommMonoid M] (f : Fin (4 * n) → M) : ∑ i, f i = ∑ k : Fin 4, ∑ d : Fin n, f (at4 k d) := by
  rw [← finProdFinEquiv.sum_comp, Fintype.sum_prod_type]
  refine Finset.sum_congr rfl fun k _ => Finset.sum_congr rfl fun d _ => congrArg f (Fin.ext ?_)
  simp only [finProdFinEquiv_apply_val, at4]
  omega

/-- A weight that is zero off the diagonal groups leaves group `k`'s product alone: zero times anything is zero. -/
theorem sum_diag {n : ℕ} (x w : Fin (4 * n) → EReal) (v : Fin n → EReal) (k : Fin 4)
    (h : ∀ (k' : Fin 4) (d : Fin n), w (at4 k' d) = if k = k' then v d else 0) : ∑ i, x i * w i = ∑ d, x (at4 k d) * v d := by
  rw [sum_at4, Finset.sum_eq_single k]
  · exact Finset.sum_congr rfl fun d _ => by rw [h, if_pos rfl]
  · intro k' _ hk
    exact Finset.sum_eq_zero fun d _ => by rw [h, if_neg (Ne.symm hk), mul_zero]
  · exact fun hk => absurd (Finset.mem_univ k) hk

end Cert.Decoder

end
-- ==== Proof.Packed.lean ====
/- The kernel's work on one batch, written once for all eight: four quarters of the tokens stand side by side, and every
   weight is block-diagonal over the quarters. The definitions gather the vector operations; the theorems read them one
   quarter of one row at a time. -/
module

public import proofs.«01_k».proof.Proof.Decoder
public import proofs.«01_k».proof.Proof.Gen.KernelIdeal.Skeleton
public import Idealize.ShloMosaic.Lib.Pointwise

@[expose] public section

set_option maxRecDepth 16384

noncomputable section

namespace Cert.Packed

open Idealize.ShloMosaic Idealize.ShloMosaic.Pointwise Cert.KernelIdeal Cert.KernelIdeal.Gen Cert.Decoder
open scoped BigOperators

section Ops
variable {F : FTy → Type} [FloatOps F]

/-- One corner of one plane, weighted by a quarter. -/
def cornerV (v : Vec F S1x1x1x1x32 .f32) : FVec F S1x32 .f32 :=
  mulf (broadcast S1x32 (Scalar.ofBits .f32 0x3E800000#32)) (shapeCast S1x32 v shapeCasts_S1x1x1x1x32_S1x32)

/-- The feature vector of a batch: twelve corners, added from zero. -/
def featV (v0 v1 v2 v3 v4 v5 v6 v7 v8 v9 v10 v11 : Vec F S1x1x1x1x32 .f32) : FVec F S1x32 .f32 :=
  addf (addf (addf (addf (addf (addf (addf (addf (addf (addf (addf (addf (broadcast S1x32 (Scalar.ofBits .f32 0x00000000#32))
    (cornerV v0)) (cornerV v1)) (cornerV v2)) (cornerV v3)) (cornerV v4)) (cornerV v5)) (cornerV v6)) (cornerV v7)) (cornerV v8))
    (cornerV v9)) (cornerV v10)) (cornerV v11)

/-- The feature vector, once per quarter. -/
def featsV (v : FVec F S1x32 .f32) : FVec F S1x128 .f32 :=
  concatenate S1x128 1 [⟨S1x32, v⟩, ⟨S1x32, v⟩, ⟨S1x32, v⟩, ⟨S1x32, v⟩] concatenates_S1x32_S1x32_S1x32_S1x32_S1x128_d1

/-- The batch's points, its four quarters side by side. -/
def pointsV (v : Vec F S1x4096x3 .f32) : FVec F S1024x12 .f32 :=
  concatenate S1024x12 1
    [⟨S1024x3, extractStridedSlice S1024x3 ![0, 0] (shapeCast S4096x3 v shapeCasts_S1x4096x3_S4096x3) slices_S4096x3_o0_0_S1024x3⟩,
     ⟨S1024x3, extractStridedSlice S1024x3 ![1024, 0] (shapeCast S4096x3 v shapeCasts_S1x4096x3_S4096x3) slices_S4096x3_o1024_0_S1024x3⟩,
     ⟨S1024x3, extractStridedSlice S1024x3 ![2048, 0] (shapeCast S4096x3 v shapeCasts_S1x4096x3_S4096x3) slices_S4096x3_o2048_0_S1024x3⟩,
     ⟨S1024x3, extractStridedSlice S1024x3 ![3072, 0] (shapeCast S4096x3 v shapeCasts_S1x4096x3_S4096x3) slices_S4096x3_o3072_0_S1024x3⟩]
    concatenates_S1024x3_S1024x3_S1024x3_S1024x3_S1024x12_d1

/-- The embedding of the points. -/
def embedV (x : FVec F S1024x12 .f32) (w : Vec F S1024x12 .f32) : FVec F S1024x1024 .f32 :=
  matmul dot_S1024x12_S1024x12_S1024x1024_1_1_0_0_n_n none x w (constant S1024x1024 .f32 0x00000000#32)

/-- The positive part of the embedding. -/
def posEmbedV (x : FVec F S1024x1024 .f32) : FVec F S1024x1024 .f32 :=
  maximumf x (broadcast S1024x1024 (Scalar.ofBits .f32 0x00000000#32))

/-- The layer from the embedding to the block's width. -/
def narrowV (x : FVec F S1024x1024 .f32) (w : Vec F S128x1024 .f32) : FVec F S1024x128 .f32 :=
  matmul dot_S1024x1024_S128x1024_S1024x128_1_1_0_0_n_n none x w (constant S1024x128 .f32 0x00000000#32)

/-- The first block's shortcut, straight from the points. -/
def shortV (x : FVec F S1024x12 .f32) (w : Vec F S128x12 .f32) : FVec F S1024x128 .f32 :=
  matmul dot_S1024x12_S128x12_S1024x128_1_1_0_0_n_n none x w (constant S1024x128 .f32 0x00000000#32)

/-- A layer of the blocks' width. -/
def layerV (x : FVec F S1024x128 .f32) (w : Vec F S1x128x128 .f32) : FVec F S1024x128 .f32 :=
  matmul dot_S1024x128_S128x128_S1024x128_1_1_0_0_n_n none x (shapeCast S128x128 w shapeCasts_S1x128x128_S128x128)
    (constant S1024x128 .f32 0x00000000#32)

/-- The positive part, at the blocks' width. -/
def posV (x : FVec F S1024x128 .f32) : FVec F S1024x128 .f32 :=
  maximumf x (broadcast S1024x128 (Scalar.ofBits .f32 0x00000000#32))

/-- The features added to every row. -/
def addFeatsV (x : FVec F S1024x128 .f32) (cf : FVec F S1x128 .f32) : FVec F S1024x128 .f32 :=
  addf x (broadcastTo S1024x128 cf broadcasts_S1x128_S1024x128)

/-- The first block. -/
def firstV (cf : FVec F S1x128 .f32) (pt : FVec F S1024x12 .f32) (wp : Vec F S1024x12 .f32) (w00 : Vec F S128x1024 .f32)
    (wsp : Vec F S128x12 .f32) (w01 : Vec F S1x128x128 .f32) : FVec F S1024x128 .f32 :=
  addFeatsV (addf (shortV pt wsp) (layerV (posV (narrowV (posEmbedV (embedV pt wp)) w00)) w01)) cf

/-- A later block. -/
def blockV (cf : FVec F S1x128 .f32) (net : FVec F S1024x128 .f32) (wa wb : Vec F S1x128x128 .f32) : FVec F S1024x128 .f32 :=
  addFeatsV (addf net (layerV (posV (layerV (posV net) wa)) wb)) cf

/-- The output layer, a row per quarter. -/
def outV (w : Vec F S4x128 .f32) (x : FVec F S1024x128 .f32) : FVec F S4x1024 .f32 :=
  matmul dot_S4x128_S1024x128_S4x1024_1_1_0_0_n_n none w x (constant S4x1024 .f32 0x00000000#32)

/-- The four rows behind one another. -/
def joinV (v : FVec F S4x1024 .f32) : FVec F S1x4096 .f32 :=
  concatenate S1x4096 1
    [⟨S1x1024, extractStridedSlice S1x1024 ![0, 0] v slices_S4x1024_o0_0_S1x1024⟩,
     ⟨S1x1024, extractStridedSlice S1x1024 ![1, 0] v slices_S4x1024_o1_0_S1x1024⟩,
     ⟨S1x1024, extractStridedSlice S1x1024 ![2, 0] v slices_S4x1024_o2_0_S1x1024⟩,
     ⟨S1x1024, extractStridedSlice S1x1024 ![3, 0] v slices_S4x1024_o3_0_S1x1024⟩]
    concatenates_S1x1024_S1x1024_S1x1024_S1x1024_S1x4096_d1

/-- One batch: from its points and its features to its row of the output. -/
def batchV (cf : FVec F S1x128 .f32) (pb : Vec F S1x4096x3 .f32) (wp : Vec F S1024x12 .f32) (w00 : Vec F S128x1024 .f32)
    (wsp : Vec F S128x12 .f32) (s0 s1 s2 s3 s4 s5 s6 s7 s8 : Vec F S1x128x128 .f32) (wout : Vec F S4x128 .f32) : FVec F S1x4096 .f32 :=
  joinV (outV wout (posV (blockV cf (blockV cf (blockV cf (blockV cf (firstV cf (pointsV pb) wp w00 wsp s0) s1 s2) s3 s4) s5 s6) s7 s8)))

end Ops

/-! ## One quarter of one row -/

/-- Quarter `k` of row `r`. -/
def quarter {a n : ℕ} (x : (⟨2, ![a, 4 * n]⟩ : Shape).Idx → EReal) (k : Fin 4) (r : Fin a) : Fin n → EReal :=
  fun d => x (ix2 r (at4 k d))

/-- The matrix `w` carries `W` on its four diagonal blocks and zero elsewhere. -/
def Diag {a b : ℕ} (w : (⟨2, ![4 * a, 4 * b]⟩ : Shape).Idx → EReal) (W : Fin a → Fin b → EReal) : Prop :=
  ∀ (k : Fin 4) (o : Fin a) (k' : Fin 4) (d : Fin b), w (ix2 (at4 k o) (at4 k' d)) = if k = k' then W o d else 0

/-- The embedding of one quarter. -/
theorem embedV_quarter (x : FVec Ideal S1024x12 .f32) (w : Vec Ideal S1024x12 .f32) (W : Fin 256 → Fin 3 → EReal)
    (h : Diag (a := 256) (b := 3) w W) (k : Fin 4) (r : Fin 1024) :
    quarter (n := 256) (embedV x w) k r = lin W (quarter (n := 3) x k r) := by
  funext o
  refine Eq.trans (?_ : _ = ∑ j : Fin (4 * 3), x (ix2 r j) * w (ix2 (at4 (n := 256) k o) j)) (sum_diag _ _ (W o) k (h k o))
  show embedV x w (ix2 r (at4 (n := 256) k o)) = _
  pointwise [embedV]

/-- The layer from the embedding, on one quarter. -/
theorem narrowV_quarter (x : FVec Ideal S1024x1024 .f32) (w : Vec Ideal S128x1024 .f32) (W : Fin 32 → Fin 256 → EReal)
    (h : Diag (a := 32) (b := 256) w W) (k : Fin 4) (r : Fin 1024) :
    quarter (n := 32) (narrowV x w) k r = lin W (quarter (n := 256) x k r) := by
  funext o
  refine Eq.trans (?_ : _ = ∑ j : Fin (4 * 256), x (ix2 r j) * w (ix2 (at4 (n := 32) k o) j)) (sum_diag _ _ (W o) k (h k o))
  show narrowV x w (ix2 r (at4 (n := 32) k o)) = _
  pointwise [narrowV]

/-- The shortcut, on one quarter. -/
theorem shortV_quarter (x : FVec Ideal S1024x12 .f32) (w : Vec Ideal S128x12 .f32) (W : Fin 32 → Fin 3 → EReal)
    (h : Diag (a := 32) (b := 3) w W) (k : Fin 4) (r : Fin 1024) :
    quarter (n := 32) (shortV x w) k r = lin W (quarter (n := 3) x k r) := by
  funext o
  refine Eq.trans (?_ : _ = ∑ j : Fin (4 * 3), x (ix2 r j) * w (ix2 (at4 (n := 32) k o) j)) (sum_diag _ _ (W o) k (h k o))
  show shortV x w (ix2 r (at4 (n := 32) k o)) = _
  pointwise [shortV]

/-- The one plane of a stored weight. -/
def plane (w : Vec Ideal S1x128x128 .f32) : S128x128.Idx → EReal := fun j => w (ix3 0 (j 0) (j 1))

/-- A layer of the blocks' width, on one quarter. -/
theorem layerV_quarter (x : FVec Ideal S1024x128 .f32) (w : Vec Ideal S1x128x128 .f32) (W : Fin 32 → Fin 32 → EReal)
    (h : Diag (a := 32) (b := 32) (plane w) W) (k : Fin 4) (r : Fin 1024) :
    quarter (n := 32) (layerV x w) k r = lin W (quarter (n := 32) x k r) := by
  funext o
  refine Eq.trans (?_ : _ = ∑ j : Fin (4 * 32), x (ix2 r j) * plane w (ix2 (at4 (n := 32) k o) j)) (sum_diag _ _ (W o) k (h k o))
  show layerV x w (ix2 r (at4 (n := 32) k o)) = _
  pointwise [layerV, plane]

/-- The positive part of the embedding, on one quarter. -/
theorem posEmbedV_quarter (x : FVec Ideal S1024x1024 .f32) (k : Fin 4) (r : Fin 1024) :
    quarter (n := 256) (posEmbedV x) k r = relu (quarter (n := 256) x k r) := by
  funext o
  show posEmbedV x (ix2 r (at4 (n := 256) k o)) = max (x (ix2 r (at4 (n := 256) k o))) 0
  pointwise [posEmbedV]

/-- The positive part, on one quarter. -/
theorem posV_quarter (x : FVec Ideal S1024x128 .f32) (k : Fin 4) (r : Fin 1024) :
    quarter (n := 32) (posV x) k r = relu (quarter (n := 32) x k r) := by
  funext o
  show posV x (ix2 r (at4 (n := 32) k o)) = max (x (ix2 r (at4 (n := 32) k o))) 0
  pointwise [posV]

/-- The features added, on one quarter, when every quarter of them is `cf`. -/
theorem addFeatsV_quarter (x : FVec Ideal S1024x128 .f32) (v : FVec Ideal S1x128 .f32) (cf : Fin 32 → EReal)
    (h : ∀ k, quarter (n := 32) v k 0 = cf) (k : Fin 4) (r : Fin 1024) :
    quarter (n := 32) (addFeatsV x v) k r = fun o => quarter (n := 32) x k r o + cf o := by
  funext o
  rw [← h k]
  show addFeatsV x v (ix2 r (at4 (n := 32) k o)) = x (ix2 r (at4 (n := 32) k o)) + v (ix2 0 (at4 (n := 32) k o))
  pointwise [addFeatsV]

/-- The first block, on one quarter. -/
theorem firstV_quarter (W : Weights) (v : FVec Ideal S1x128 .f32) (cf : Fin 32 → EReal) (h : ∀ k, quarter (n := 32) v k 0 = cf)
    (pt : FVec Ideal S1024x12 .f32) (wp : Vec Ideal S1024x12 .f32) (w00 : Vec Ideal S128x1024 .f32) (ws : Vec Ideal S128x12 .f32)
    (w01 : Vec Ideal S1x128x128 .f32) (hp : Diag (a := 256) (b := 3) wp W.wp) (h00 : Diag (a := 32) (b := 256) w00 W.w00)
    (hs : Diag (a := 32) (b := 3) ws (wsp W)) (h01 : Diag (a := 32) (b := 32) (plane w01) W.w01) (k : Fin 4) (r : Fin 1024) :
    quarter (n := 32) (firstV v pt wp w00 ws w01) k r = firstFused W cf (quarter (n := 3) pt k r) := by
  have hb := layerV_quarter (posV (narrowV (posEmbedV (embedV pt wp)) w00)) w01 W.w01 h01 k r
  rw [posV_quarter, narrowV_quarter _ _ _ h00, posEmbedV_quarter, embedV_quarter _ _ _ hp] at hb
  rw [firstV, addFeatsV_quarter _ _ cf h]
  funext o
  exact congrArg (· + cf o) (congrArg₂ (· + ·) (congrFun (shortV_quarter pt ws (wsp W) hs k r) o) (congrFun hb o))

/-- A later block, on one quarter. -/
theorem blockV_quarter (A B : Fin 32 → Fin 32 → EReal) (v : FVec Ideal S1x128 .f32) (cf : Fin 32 → EReal)
    (h : ∀ k, quarter (n := 32) v k 0 = cf) (net : FVec Ideal S1024x128 .f32) (wa wb : Vec Ideal S1x128x128 .f32)
    (ha : Diag (a := 32) (b := 32) (plane wa) A) (hb : Diag (a := 32) (b := 32) (plane wb) B) (k : Fin 4) (r : Fin 1024) :
    quarter (n := 32) (blockV v net wa wb) k r = block A B cf (quarter (n := 32) net k r) := by
  have hl := layerV_quarter (posV (layerV (posV net) wa)) wb B hb k r
  rw [posV_quarter, layerV_quarter _ _ _ ha, posV_quarter] at hl
  rw [blockV, addFeatsV_quarter _ _ cf h]
  funext o
  exact congrArg (· + cf o) (congrArg (quarter (n := 32) net k r o + ·) (congrFun hl o))

/-- The output layer: its row `k` at `r` is quarter `k` of row `r` times the output weights. -/
theorem outV_apply (w : Vec Ideal S4x128 .f32) (x : FVec Ideal S1024x128 .f32) (W : Fin 32 → EReal)
    (h : Diag (a := 1) (b := 32) w fun _ => W) (k : Fin 4) (r : Fin 1024) :
    outV w x (ix2 k r) = ∑ d, quarter (n := 32) x k r d * W d := by
  refine Eq.trans (?_ : _ = ∑ j : Fin (4 * 32), x (ix2 r j) * w (ix2 k j)) (sum_diag _ _ W k fun k' d => ?_)
  · pointwise [outV]
    exact Finset.sum_congr rfl fun _ _ => mul_comm _ _
  · have := h k 0 k' d
    rwa [show at4 (n := 1) k 0 = k from Fin.ext (by simp [at4])] at this

/-- The rows joined: place `1024 k + r` holds row `k` at `r`. -/
theorem joinV_apply (v : FVec Ideal S4x1024 .f32) (k : Fin 4) (r : Fin 1024) :
    joinV v (ix2 (0 : Fin 1) (at4 (n := 1024) k r)) = v (ix2 k r) := by
  have := r.isLt
  fin_cases k <;> pointwise [joinV, at4]
  all_goals split_ifs <;> first | omega | exact congrArg (fun q => v (ix2 _ q)) (Fin.ext (show _ = _ by dsimp only; omega))

/-- The points of quarter `k` at row `r` are those of token `1024 k + r`. -/
theorem pointsV_quarter (v : Vec Ideal S1x4096x3 .f32) (k : Fin 4) (r : Fin 1024) :
    quarter (n := 3) (pointsV v) k r = fun d => v (ix3 0 (at4 (n := 1024) k r) d) := by
  funext d
  show pointsV v (ix2 r (at4 (n := 3) k d)) = _
  have := r.isLt
  fin_cases k <;> fin_cases d <;> pointwise [pointsV, at4]

/-- Every quarter of the features is the feature vector. -/
theorem featsV_quarter (v : FVec Ideal S1x32 .f32) (k : Fin 4) : quarter (n := 32) (featsV v) k 0 = fun d => v (ix2 0 d) := by
  funext d
  show featsV v (ix2 0 (at4 (n := 32) k d)) = _
  have := d.isLt
  fin_cases k <;> pointwise [featsV, at4]
  all_goals split_ifs <;> first | omega | exact congrArg (fun q => v (ix2 _ q)) (Fin.ext (show _ = _ by dsimp only; omega))

/-- One batch at token `1024 k + r`: the decoder with the fused shortcut, on that token's point. -/
theorem batchV_apply (W : Weights) (v : FVec Ideal S1x32 .f32) (pb : Vec Ideal S1x4096x3 .f32) (wp : Vec Ideal S1024x12 .f32)
    (w00 : Vec Ideal S128x1024 .f32) (ws : Vec Ideal S128x12 .f32) (s0 s1 s2 s3 s4 s5 s6 s7 s8 : Vec Ideal S1x128x128 .f32)
    (wout : Vec Ideal S4x128 .f32) (hp : Diag (a := 256) (b := 3) wp W.wp) (h00 : Diag (a := 32) (b := 256) w00 W.w00)
    (hs : Diag (a := 32) (b := 3) ws (wsp W)) (h0 : Diag (a := 32) (b := 32) (plane s0) W.w01)
    (h1 : Diag (a := 32) (b := 32) (plane s1) W.w10) (h2 : Diag (a := 32) (b := 32) (plane s2) W.w11)
    (h3 : Diag (a := 32) (b := 32) (plane s3) W.w20) (h4 : Diag (a := 32) (b := 32) (plane s4) W.w21)
    (h5 : Diag (a := 32) (b := 32) (plane s5) W.w30) (h6 : Diag (a := 32) (b := 32) (plane s6) W.w31)
    (h7 : Diag (a := 32) (b := 32) (plane s7) W.w40) (h8 : Diag (a := 32) (b := 32) (plane s8) W.w41)
    (ho : Diag (a := 1) (b := 32) wout fun _ => W.wout) (k : Fin 4) (r : Fin 1024) :
    batchV (featsV v) pb wp w00 ws s0 s1 s2 s3 s4 s5 s6 s7 s8 wout (ix2 (0 : Fin 1) (at4 (n := 1024) k r))
      = rest W (fun d => v (ix2 0 d)) (firstFused W (fun d => v (ix2 0 d)) fun d => pb (ix3 0 (at4 (n := 1024) k r) d)) := by
  have hf := featsV_quarter v
  rw [batchV, joinV_apply, outV_apply _ _ W.wout ho, posV_quarter, blockV_quarter W.w40 W.w41 _ _ hf _ _ _ h7 h8,
    blockV_quarter W.w30 W.w31 _ _ hf _ _ _ h5 h6, blockV_quarter W.w20 W.w21 _ _ hf _ _ _ h3 h4,
    blockV_quarter W.w10 W.w11 _ _ hf _ _ _ h1 h2, firstV_quarter W _ _ hf _ _ _ _ _ hp h00 hs h0, pointsV_quarter]
  rfl

end Cert.Packed

end
-- ==== Proof.Scratch.lean ====
/- The kernel's five scratches, filled with zeros and then with each weight four times down the diagonal: what they hold,
   and that each is block-diagonal. -/
module

public import proofs.«01_k».proof.Proof.Packed
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Scratch

open Idealize.ShloMosaic Idealize.ShloMosaic.Pointwise Cert.KernelIdeal Cert.KernelIdeal.Gen Cert.Decoder Cert.Packed
open scoped BigOperators

/-! ## Stores through unit rectangles, at an index -/

section Stores
variable {S : Shape} {off size : Fin S.rank → ℕ} {inb : ∀ a, off a + size a ≤ S.size a}

/-- Under the last store, its payload. -/
theorem canon_hit (w : (⟨S.rank, size⟩ : Shape).Idx → Elt Ideal .f32)
    (L : List (View.Piece (Elt Ideal) S .f32)) (y : S.Idx) (x : (⟨S.rank, size⟩ : Shape).Idx) (h : ∀ a, (y a : ℕ) = off a + x a) :
    View.canon ((⟨Rect.unit off size inb, w⟩ : View.Piece (Elt Ideal) S .f32) :: L) y = w x := by
  have e : (Rect.unit off size inb).emb x = y := funext fun a => Fin.ext ((Rect.idx_unit_val off size inb x a).trans (h a).symm)
  rw [← e]
  exact View.canon_cons_emb (Rect.unit off size inb) w L x

/-- Off the last store on some axis, what the earlier ones left. -/
theorem canon_miss (w : (⟨S.rank, size⟩ : Shape).Idx → Elt Ideal .f32)
    (L : List (View.Piece (Elt Ideal) S .f32)) (y : S.Idx) (a : Fin S.rank) (h : (y a : ℕ) < off a ∨ off a + size a ≤ y a) :
    View.canon ((⟨Rect.unit off size inb, w⟩ : View.Piece (Elt Ideal) S .f32) :: L) y = View.canon L y := by
  refine View.canon_cons_of_not_mem _ L fun hm => ?_
  have := Rect.mem_set_unit (s := S) (off := off) (size := size) (inb := inb) |>.mp hm a
  omega

/-- A load of a rectangle, at an index. -/
theorem readCov_at {sig : RefSig} {κ : Kind} {sp : Space} (v : View sig κ sp S .f32) (L : List (View.Piece (Elt Ideal) S .f32))
    (x : (⟨S.rank, size⟩ : Shape).Idx) (y : S.Idx)
    (h : ∀ a, (y a : ℕ) = off a + x a) : v.readCov L (Rect.unit off size inb).toLoadRect x = View.canon L y := by
  have e : (Rect.unit off size inb).toLoadRect.idx x = y := funext fun a => Fin.ext ((Rect.idx_unit_val off size inb x a).trans (h a).symm)
  rw [View.readCov_eq_canon', ← e]

end Stores

/-! ## Four copies down the diagonal of a zeroed array -/

/-- In two dimensions. -/
theorem canon_diag {a b : ℕ} (w0 w1 w2 w3 : (⟨2, ![a, b]⟩ : Shape).Idx → Elt Ideal .f32) (Z : (⟨2, ![4 * a, 4 * b]⟩ : Shape).Idx → Elt Ideal .f32)
    (W : Fin a → Fin b → EReal) (h0 : ∀ o d, w0 (ix2 o d) = W o d) (h1 : ∀ o d, w1 (ix2 o d) = W o d)
    (h2 : ∀ o d, w2 (ix2 o d) = W o d) (h3 : ∀ o d, w3 (ix2 o d) = W o d) (hZ : ∀ y, Z y = (0 : EReal)) (i3 i2 i1 i0 iz) :
    Diag (View.canon (s := (⟨2, ![4 * a, 4 * b]⟩ : Shape)) (e := .f32) (Val := Elt Ideal)
      [⟨Rect.unit ![3 * a, 3 * b] ![a, b] i3, w3⟩, ⟨Rect.unit ![2 * a, 2 * b] ![a, b] i2, w2⟩, ⟨Rect.unit ![a, b] ![a, b] i1, w1⟩,
        ⟨Rect.unit ![0, 0] ![a, b] i0, w0⟩, ⟨Rect.unit ![0, 0] ![4 * a, 4 * b] iz, Z⟩]) W := by
  intro k o k' d
  have ho := o.isLt
  have hd := d.isLt
  fin_cases k <;> fin_cases k'
  all_goals
    repeat first
      | rw [canon_miss _ _ _ 0 (by dsimp [at4]; omega)]
      | rw [canon_miss _ _ _ 1 (by dsimp [at4]; omega)]
  all_goals
    first
      | (rw [canon_hit _ _ _ (ix2 o d) (by intro x; fin_cases x <;> dsimp [at4] <;> omega)]
         simp [h0, h1, h2, h3])
      | (rw [canon_hit _ _ _ (ix2 (at4 _ o) (at4 _ d)) (by intro x; fin_cases x <;> exact (Nat.zero_add _).symm)]
         simp [hZ])

/-- In three, within one plane. -/
theorem canon_diag_plane {n a b : ℕ} (p : ℕ) (i : Fin n) (hi : i.val = p) (w0 w1 w2 w3 : (⟨3, ![1, a, b]⟩ : Shape).Idx → Elt Ideal .f32)
    (Z : (⟨3, ![n, 4 * a, 4 * b]⟩ : Shape).Idx → Elt Ideal .f32)
    (W : Fin a → Fin b → EReal) (h0 : ∀ o d, w0 (ix3 0 o d) = W o d) (h1 : ∀ o d, w1 (ix3 0 o d) = W o d)
    (h2 : ∀ o d, w2 (ix3 0 o d) = W o d) (h3 : ∀ o d, w3 (ix3 0 o d) = W o d) (hZ : ∀ y, Z y = (0 : EReal)) (i3 i2 i1 i0 iz)
    (k : Fin 4) (o : Fin a) (k' : Fin 4) (d : Fin b) :
    View.canon (s := (⟨3, ![n, 4 * a, 4 * b]⟩ : Shape)) (e := .f32) (Val := Elt Ideal)
      [⟨Rect.unit ![p, 3 * a, 3 * b] ![1, a, b] i3, w3⟩, ⟨Rect.unit ![p, 2 * a, 2 * b] ![1, a, b] i2, w2⟩,
        ⟨Rect.unit ![p, a, b] ![1, a, b] i1, w1⟩, ⟨Rect.unit ![p, 0, 0] ![1, a, b] i0, w0⟩,
        ⟨Rect.unit ![0, 0, 0] ![n, 4 * a, 4 * b] iz, Z⟩] (ix3 i (at4 k o) (at4 k' d)) = if k = k' then W o d else 0 := by
  have ho := o.isLt
  have hd := d.isLt
  fin_cases k <;> fin_cases k'
  all_goals
    repeat first
      | rw [canon_miss _ _ _ 1 (by dsimp [at4]; omega)]
      | rw [canon_miss _ _ _ 2 (by dsimp [at4]; omega)]
  all_goals
    first
      | (rw [canon_hit _ _ _ (ix3 0 o d) (by intro x; fin_cases x <;> dsimp [at4] <;> omega)]
         simp [h0, h1, h2, h3])
      | (rw [canon_hit _ _ _ (ix3 i (at4 _ o) (at4 _ d)) (by intro x; fin_cases x <;> exact (Nat.zero_add _).symm)]
         simp [hZ])

/-- A store to another plane leaves this one. -/
theorem canon_other {n a b : ℕ} {p q r a' b' : ℕ} {inb} (w : (⟨3, ![1, a', b']⟩ : Shape).Idx → Elt Ideal .f32)
    (L : List (View.Piece (Elt Ideal) (⟨3, ![n, a, b]⟩ : Shape) .f32)) (i : Fin n) (y : Fin a) (z : Fin b) (h : p ≠ i.val) :
    View.canon ((⟨Rect.unit ![p, q, r] ![1, a', b'] inb, w⟩ : View.Piece (Elt Ideal) (⟨3, ![n, a, b]⟩ : Shape) .f32) :: L) (ix3 i y z)
      = View.canon L (ix3 i y z) :=
  canon_miss w L _ 0 (show i.val < p ∨ p + 1 ≤ i.val by omega)

/-- Lists that leave the same at an index still do after one more store. -/
theorem canon_keep {S : Shape} (p : View.Piece (Elt Ideal) S .f32) {L L' : List (View.Piece (Elt Ideal) S .f32)} {y : S.Idx}
    (h : View.canon L y = View.canon L' y) : View.canon (p :: L) y = View.canon (p :: L') y := by
  by_cases hm : y ∈ p.1.set
  · obtain ⟨r, w⟩ := p
    obtain ⟨x, rfl⟩ : ∃ x, r.emb x = y := r.exists_idx_of_mem hm
    rw [View.canon_cons_emb, View.canon_cons_emb]
  · rw [View.canon_cons_of_not_mem p L hm, View.canon_cons_of_not_mem p L' hm, h]

/-- Stores that miss an index leave it. -/
theorem canon_skip {S : Shape} {ι : Type} (f : ι → View.Piece (Elt Ideal) S .f32) (y : S.Idx) (i : ι)
    (hf : ∀ p, p ≠ i → ∀ L, View.canon (f p :: L) y = View.canon L y) (ps : List ι) (hi : i ∉ ps) (L : List (View.Piece (Elt Ideal) S .f32)) :
    View.canon (ps.map f ++ L) y = View.canon L y := by
  induction ps with
  | nil => rfl
  | cons p ps ih =>
    rw [List.mem_cons, not_or] at hi
    exact (hf p (Ne.symm hi.1) _).trans (ih hi.2)

/-- Of stores of which one alone can meet an index, that one counts. -/
theorem canon_pick {S : Shape} {ι : Type} (f : ι → View.Piece (Elt Ideal) S .f32) (y : S.Idx) (i : ι)
    (hf : ∀ p, p ≠ i → ∀ L, View.canon (f p :: L) y = View.canon L y) (ps : List ι) (hn : ps.Nodup) (hi : i ∈ ps)
    {L L' : List (View.Piece (Elt Ideal) S .f32)} (h : View.canon L y = View.canon L' y) :
    View.canon (ps.map f ++ L) y = View.canon (f i :: L') y := by
  induction ps with
  | nil => exact absurd hi List.not_mem_nil
  | cons p ps ih =>
    rw [List.nodup_cons] at hn
    by_cases e : p = i
    · subst e
      exact canon_keep _ ((canon_skip f y p hf ps hn.1 L).trans h)
    · exact (hf p e _).trans (ih hn.2 ((List.mem_cons.mp hi).resolve_left (Ne.symm e)))

/-! ## The five scratches -/

/-- The stores into the scratch of the embedding. -/
def wpL (w : Vec Ideal S256x3 .f32) : List (View.Piece (Elt Ideal) S1024x12 .f32) :=
  [⟨Rect.unit ![768, 9] S256x3.size inb_S1024x12_S256x3_768_9, k0_pay46 (F := Ideal) w⟩,
    ⟨Rect.unit ![512, 6] S256x3.size inb_S1024x12_S256x3_512_6, k0_pay33 (F := Ideal) w⟩,
    ⟨Rect.unit ![256, 3] S256x3.size inb_S1024x12_S256x3_256_3, k0_pay20 (F := Ideal) w⟩,
    ⟨Rect.unit ![0, 0] S256x3.size inb_S1024x12_S256x3_0_0, k0_pay7 (F := Ideal) w⟩,
    ⟨Rect.unit ![0, 0] S1024x12.size inb_S1024x12_S1024x12_0_0, (k0_pay1 (F := Ideal))⟩]

/-- That scratch, loaded whole. -/
def wpS (w : Vec Ideal S256x3 .f32) : Vec Ideal S1024x12 .f32 :=
  scM0_0.view.readCov (wpL w) (Rect.unit ![0, 0] S1024x12.size inb_S1024x12_S1024x12_0_0).toLoadRect

/-- It is block-diagonal. -/
theorem wpS_diag (w : Vec Ideal S256x3 .f32) : Diag (a := 256) (b := 3) (wpS w) fun o d => w (ix2 o d) := by
  intro k o k' d
  rw [wpS, readCov_at _ _ _ (ix2 (at4 k o) (at4 k' d)) (by intro x; fin_cases x <;> exact (Nat.zero_add _).symm)]
  exact canon_diag (a := 256) (b := 3) (k0_pay7 (F := Ideal) w) (k0_pay20 (F := Ideal) w) (k0_pay33 (F := Ideal) w) (k0_pay46 (F := Ideal) w) (k0_pay1 (F := Ideal)) (fun o d => w (ix2 o d))
    (fun o d => by pointwise [k0_pay7]) (fun o d => by pointwise [k0_pay20]) (fun o d => by pointwise [k0_pay33])
    (fun o d => by pointwise [k0_pay46]) (fun y => by rw [eq_ix2 y]; pointwise [k0_pay1]) _ _ _ _ _ k o k' d

/-- The stores into the scratch of the layer after it. -/
def w00L (w : Vec Ideal S32x256 .f32) : List (View.Piece (Elt Ideal) S128x1024 .f32) :=
  [⟨Rect.unit ![96, 768] S32x256.size inb_S128x1024_S32x256_96_768, k0_pay47 (F := Ideal) w⟩,
    ⟨Rect.unit ![64, 512] S32x256.size inb_S128x1024_S32x256_64_512, k0_pay34 (F := Ideal) w⟩,
    ⟨Rect.unit ![32, 256] S32x256.size inb_S128x1024_S32x256_32_256, k0_pay21 (F := Ideal) w⟩,
    ⟨Rect.unit ![0, 0] S32x256.size inb_S128x1024_S32x256_0_0, k0_pay8 (F := Ideal) w⟩,
    ⟨Rect.unit ![0, 0] S128x1024.size inb_S128x1024_S128x1024_0_0, (k0_pay2 (F := Ideal))⟩]

/-- That scratch, loaded whole. -/
def w00S (w : Vec Ideal S32x256 .f32) : Vec Ideal S128x1024 .f32 :=
  scM0_1.view.readCov (w00L w) (Rect.unit ![0, 0] S128x1024.size inb_S128x1024_S128x1024_0_0).toLoadRect

/-- It is block-diagonal. -/
theorem w00S_diag (w : Vec Ideal S32x256 .f32) : Diag (a := 32) (b := 256) (w00S w) fun o d => w (ix2 o d) := by
  intro k o k' d
  rw [w00S, readCov_at _ _ _ (ix2 (at4 k o) (at4 k' d)) (by intro x; fin_cases x <;> exact (Nat.zero_add _).symm)]
  exact canon_diag (a := 32) (b := 256) (k0_pay8 (F := Ideal) w) (k0_pay21 (F := Ideal) w) (k0_pay34 (F := Ideal) w) (k0_pay47 (F := Ideal) w) (k0_pay2 (F := Ideal)) (fun o d => w (ix2 o d))
    (fun o d => by pointwise [k0_pay8]) (fun o d => by pointwise [k0_pay21]) (fun o d => by pointwise [k0_pay34])
    (fun o d => by pointwise [k0_pay47]) (fun y => by rw [eq_ix2 y]; pointwise [k0_pay2]) _ _ _ _ _ k o k' d

/-- The stores into the scratch of the shortcut. -/
def wspL (w : Vec Ideal S32x3 .f32) : List (View.Piece (Elt Ideal) S128x12 .f32) :=
  [⟨Rect.unit ![96, 9] S32x3.size inb_S128x12_S32x3_96_9, k0_pay48 (F := Ideal) w⟩,
    ⟨Rect.unit ![64, 6] S32x3.size inb_S128x12_S32x3_64_6, k0_pay35 (F := Ideal) w⟩,
    ⟨Rect.unit ![32, 3] S32x3.size inb_S128x12_S32x3_32_3, k0_pay22 (F := Ideal) w⟩,
    ⟨Rect.unit ![0, 0] S32x3.size inb_S128x12_S32x3_0_0, k0_pay9 (F := Ideal) w⟩,
    ⟨Rect.unit ![0, 0] S128x12.size inb_S128x12_S128x12_0_0, (k0_pay3 (F := Ideal))⟩]

/-- That scratch, loaded whole. -/
def wspS (w : Vec Ideal S32x3 .f32) : Vec Ideal S128x12 .f32 :=
  scM0_2.view.readCov (wspL w) (Rect.unit ![0, 0] S128x12.size inb_S128x12_S128x12_0_0).toLoadRect

/-- It is block-diagonal. -/
theorem wspS_diag (w : Vec Ideal S32x3 .f32) : Diag (a := 32) (b := 3) (wspS w) fun o d => w (ix2 o d) := by
  intro k o k' d
  rw [wspS, readCov_at _ _ _ (ix2 (at4 k o) (at4 k' d)) (by intro x; fin_cases x <;> exact (Nat.zero_add _).symm)]
  exact canon_diag (a := 32) (b := 3) (k0_pay9 (F := Ideal) w) (k0_pay22 (F := Ideal) w) (k0_pay35 (F := Ideal) w) (k0_pay48 (F := Ideal) w) (k0_pay3 (F := Ideal)) (fun o d => w (ix2 o d))
    (fun o d => by pointwise [k0_pay9]) (fun o d => by pointwise [k0_pay22]) (fun o d => by pointwise [k0_pay35])
    (fun o d => by pointwise [k0_pay48]) (fun y => by rw [eq_ix2 y]; pointwise [k0_pay3]) _ _ _ _ _ k o k' d

/-- The stores into the scratch of the output layer. -/
def woutL (w : Vec Ideal S1x32 .f32) : List (View.Piece (Elt Ideal) S4x128 .f32) :=
  [⟨Rect.unit ![3, 96] S1x32.size inb_S4x128_S1x32_3_96, k0_pay49 (F := Ideal) w⟩,
    ⟨Rect.unit ![2, 64] S1x32.size inb_S4x128_S1x32_2_64, k0_pay36 (F := Ideal) w⟩,
    ⟨Rect.unit ![1, 32] S1x32.size inb_S4x128_S1x32_1_32, k0_pay23 (F := Ideal) w⟩,
    ⟨Rect.unit ![0, 0] S1x32.size inb_S4x128_S1x32_0_0, k0_pay10 (F := Ideal) w⟩,
    ⟨Rect.unit ![0, 0] S4x128.size inb_S4x128_S4x128_0_0, (k0_pay5 (F := Ideal))⟩]

/-- That scratch, loaded whole. -/
def woutS (w : Vec Ideal S1x32 .f32) : Vec Ideal S4x128 .f32 :=
  scM0_4.view.readCov (woutL w) (Rect.unit ![0, 0] S4x128.size inb_S4x128_S4x128_0_0).toLoadRect

/-- It is block-diagonal. -/
theorem woutS_diag (w : Vec Ideal S1x32 .f32) : Diag (a := 1) (b := 32) (woutS w) fun o d => w (ix2 o d) := by
  intro k o k' d
  rw [woutS, readCov_at _ _ _ (ix2 (at4 k o) (at4 k' d)) (by intro x; fin_cases x <;> exact (Nat.zero_add _).symm)]
  exact canon_diag (a := 1) (b := 32) (k0_pay10 (F := Ideal) w) (k0_pay23 (F := Ideal) w) (k0_pay36 (F := Ideal) w) (k0_pay49 (F := Ideal) w) (k0_pay5 (F := Ideal)) (fun o d => w (ix2 o d))
    (fun o d => by pointwise [k0_pay10]) (fun o d => by pointwise [k0_pay23]) (fun o d => by pointwise [k0_pay36])
    (fun o d => by pointwise [k0_pay49]) (fun y => by rw [eq_ix2 y]; pointwise [k0_pay5]) _ _ _ _ _ k o k' d

/-! ## The nine square weights, a plane each -/

/-- A store of one square weight into a plane, `q` down the diagonal. -/
def sqPiece (q : ℕ) (hq : q + 32 ≤ 128) (w : Fin 9 → Vec Ideal S32x32 .f32) (p : Fin 9) : View.Piece (Elt Ideal) S9x128x128 .f32 :=
  ⟨Rect.unit ![p.val, q, q] S1x32x32.size (by intro x; fin_cases x <;> [exact p.isLt; exact hq; exact hq]), k0_pay11 (w p)⟩

/-- The planes, in the order of the stores, the last first. -/
def planes : List (Fin 9) := [8, 7, 6, 5, 4, 3, 2, 1, 0]

/-- The stores into the scratch of the square weights. -/
def sqL (w : Fin 9 → Vec Ideal S32x32 .f32) : List (View.Piece (Elt Ideal) S9x128x128 .f32) :=
  planes.map (sqPiece 96 (by decide) w) ++ (planes.map (sqPiece 64 (by decide) w) ++ (planes.map (sqPiece 32 (by decide) w)
    ++ (planes.map (sqPiece 0 (by decide) w)
    ++ [⟨Rect.unit ![0, 0, 0] S9x128x128.size inb_S9x128x128_S9x128x128_0_0_0, (k0_pay4 (F := Ideal))⟩])))

/-- One plane of that scratch, loaded. -/
def sqS (p : Fin 9) (w : Fin 9 → Vec Ideal S32x32 .f32) : Vec Ideal S1x128x128 .f32 :=
  scM0_3.view.readCov (sqL w) (Rect.unit (s := S9x128x128) ![p.val, 0, 0] S1x128x128.size
    (by intro x; fin_cases x <;> [exact p.isLt; exact le_rfl; exact le_rfl])).toLoadRect

/-- Of one round of stores, a plane keeps its own. -/
theorem sq_round (q : ℕ) (hq : q + 32 ≤ 128) (w : Fin 9 → Vec Ideal S32x32 .f32) (i : Fin 9) (y z : Fin 128)
    {L L' : List (View.Piece (Elt Ideal) S9x128x128 .f32)} (h : View.canon L (ix3 i y z) = View.canon L' (ix3 i y z)) :
    View.canon (planes.map (sqPiece q hq w) ++ L) (ix3 i y z) = View.canon (sqPiece q hq w i :: L') (ix3 i y z) :=
  canon_pick (sqPiece q hq w) _ i (fun p hp L => canon_other _ L i y z fun e => hp (Fin.ext e)) planes (by decide)
    ((by decide : ∀ i : Fin 9, i ∈ planes) i) h

/-- It is block-diagonal. -/
theorem sqS_diag (p : Fin 9) (w : Fin 9 → Vec Ideal S32x32 .f32) :
    Diag (a := 32) (b := 32) (plane (sqS p w)) fun o d => w p (ix2 o d) := by
  intro k o k' d
  show sqS p w (ix3 0 (at4 k o) (at4 k' d)) = _
  rw [sqS, readCov_at _ _ _ (ix3 p (at4 k o) (at4 k' d)) (by intro x; fin_cases x <;> first | rfl | exact (Nat.zero_add _).symm)]
  refine (sq_round 96 _ w p _ _ (sq_round 64 _ w p _ _ (sq_round 32 _ w p _ _ (sq_round 0 _ w p _ _ rfl)))).trans ?_
  exact canon_diag_plane (n := 9) (a := 32) (b := 32) p.val p rfl (k0_pay11 (w p)) (k0_pay11 (w p)) (k0_pay11 (w p)) (k0_pay11 (w p))
    (k0_pay4 (F := Ideal)) (fun o d => w p (ix2 o d)) (fun o d => by pointwise [k0_pay11]) (fun o d => by pointwise [k0_pay11])
    (fun o d => by pointwise [k0_pay11]) (fun o d => by pointwise [k0_pay11]) (fun y => by rw [eq_ix3 y]; pointwise [k0_pay4])
    _ _ _ _ _ k o k' d

end Cert.Scratch

end
-- ==== Proof.Batches.lean ====
/- The eight batches, as the program's text splits each of them, are one and the same function. -/
module

public import proofs.«01_k».proof.Proof.Packed

@[expose] public section

set_option maxRecDepth 16384
set_option maxHeartbeats 2000000

noncomputable section

namespace Cert.Batches

open Idealize.ShloMosaic Cert.KernelIdeal Cert.KernelIdeal.Gen Cert.Packed

variable (c0 c1 c2 c3 c4 c5 c6 c7 c8 c9 c10 c11 : Vec Ideal S1x1x1x1x32 .f32) (pb : Vec Ideal S1x4096x3 .f32) (wp : Vec Ideal S1024x12 .f32)
  (w00 : Vec Ideal S128x1024 .f32) (ws : Vec Ideal S128x12 .f32) (s0 s1 s2 s3 s4 s5 s6 s7 s8 : Vec Ideal S1x128x128 .f32) (wo : Vec Ideal S4x128 .f32)

/-- Batch 0. -/
theorem batch0 : k0_pay67 (k0_pay62 (k0_pay60 (k0_pay59 c0 c1 c2 c3 c4) c5 c6 c7 c8 c9) (k0_pay61 c10) c11) (k0_pay65 (k0_pay62 (k0_pay60 (k0_pay59 c0 c1 c2 c3 c4) c5 c6 c7 c8 c9) (k0_pay61 c10) c11) (k0_pay63 (k0_pay60 (k0_pay59 c0 c1 c2 c3 c4) c5 c6 c7 c8 c9) (k0_pay61 c10) c11 pb wp w00 ws s0) (k0_pay64 (k0_pay60 (k0_pay59 c0 c1 c2 c3 c4) c5 c6 c7 c8 c9) (k0_pay61 c10) c11 pb wp w00 ws s0) s1 s2 s3 s4) (k0_pay66 (k0_pay62 (k0_pay60 (k0_pay59 c0 c1 c2 c3 c4) c5 c6 c7 c8 c9) (k0_pay61 c10) c11) (k0_pay63 (k0_pay60 (k0_pay59 c0 c1 c2 c3 c4) c5 c6 c7 c8 c9) (k0_pay61 c10) c11 pb wp w00 ws s0) (k0_pay64 (k0_pay60 (k0_pay59 c0 c1 c2 c3 c4) c5 c6 c7 c8 c9) (k0_pay61 c10) c11 pb wp w00 ws s0) s1 s2 s3 s4 s5) s6 s7 s8 wo
      = batchV (featsV (featV c0 c1 c2 c3 c4 c5 c6 c7 c8 c9 c10 c11)) pb wp w00 ws s0 s1 s2 s3 s4 s5 s6 s7 s8 wo := rfl

/-- Batch 1. -/
theorem batch1 : k0_pay78 (k0_pay71 (k0_pay70 (k0_pay69 (k0_pay68 c0) c1 c2 c3 c4 c5) c6 c7 c8 c9 c10 c11)) (k0_pay75 (k0_pay71 (k0_pay70 (k0_pay69 (k0_pay68 c0) c1 c2 c3 c4 c5) c6 c7 c8 c9 c10 c11)) (k0_pay72 (k0_pay70 (k0_pay69 (k0_pay68 c0) c1 c2 c3 c4 c5) c6 c7 c8 c9 c10 c11) pb wp w00 ws s0) (k0_pay73 (k0_pay70 (k0_pay69 (k0_pay68 c0) c1 c2 c3 c4 c5) c6 c7 c8 c9 c10 c11) pb wp w00 ws s0 s1) (k0_pay74 s2) s3 s4 s5 s6) (k0_pay76 (k0_pay71 (k0_pay70 (k0_pay69 (k0_pay68 c0) c1 c2 c3 c4 c5) c6 c7 c8 c9 c10 c11)) (k0_pay72 (k0_pay70 (k0_pay69 (k0_pay68 c0) c1 c2 c3 c4 c5) c6 c7 c8 c9 c10 c11) pb wp w00 ws s0) (k0_pay73 (k0_pay70 (k0_pay69 (k0_pay68 c0) c1 c2 c3 c4 c5) c6 c7 c8 c9 c10 c11) pb wp w00 ws s0 s1) (k0_pay74 s2) s3 s4 s5 s6) (k0_pay77 s7) (constant S1024x128 .f32 0#32) s8 wo
      = batchV (featsV (featV c0 c1 c2 c3 c4 c5 c6 c7 c8 c9 c10 c11)) pb wp w00 ws s0 s1 s2 s3 s4 s5 s6 s7 s8 wo := rfl

/-- Batch 2. -/
theorem batch2 : k0_pay87 (k0_pay86 (k0_pay82 (k0_pay80 (k0_pay79 c0 c1) c2 c3 c4 c5 c6) (k0_pay81 c7) c8 c9 c10 c11) (k0_pay84 (k0_pay82 (k0_pay80 (k0_pay79 c0 c1) c2 c3 c4 c5 c6) (k0_pay81 c7) c8 c9 c10 c11) (k0_pay83 pb) wp (constant S1024x1024 .f32 0#32) w00 ws s0 s1 s2) (k0_pay85 (k0_pay82 (k0_pay80 (k0_pay79 c0 c1) c2 c3 c4 c5 c6) (k0_pay81 c7) c8 c9 c10 c11) (k0_pay83 pb) wp (constant S1024x1024 .f32 0#32) w00 ws s0 s1 s2 s3) s4 s5 s6 s7 s8) (FloatOps.ofBits .f32 0#32) wo
      = batchV (featsV (featV c0 c1 c2 c3 c4 c5 c6 c7 c8 c9 c10 c11)) pb wp w00 ws s0 s1 s2 s3 s4 s5 s6 s7 s8 wo := rfl

/-- Batch 3. -/
theorem batch3 : k0_pay97 (k0_pay92 (k0_pay91 (k0_pay88 c0 c1 c2) (k0_pay89 c3) (k0_pay90 (F := Ideal)) c4 c5 c6 c7 c8) c9 c10 c11) (k0_pay95 (k0_pay92 (k0_pay91 (k0_pay88 c0 c1 c2) (k0_pay89 c3) (k0_pay90 (F := Ideal)) c4 c5 c6 c7 c8) c9 c10 c11) (k0_pay93 pb) (k0_pay94 pb wp w00) ws s0 s1 s2 s3 s4) (k0_pay96 (F := Ideal)) s5 s6 s7 s8 wo
      = batchV (featsV (featV c0 c1 c2 c3 c4 c5 c6 c7 c8 c9 c10 c11)) pb wp w00 ws s0 s1 s2 s3 s4 s5 s6 s7 s8 wo := rfl

/-- Batch 4. -/
theorem batch4 : k0_pay106 (k0_pay101 (k0_pay99 (k0_pay98 c0 c1 c2 c3 c4) c5 c6 c7 c8 c9) (k0_pay100 c10) c11) (k0_pay104 (k0_pay101 (k0_pay99 (k0_pay98 c0 c1 c2 c3 c4) c5 c6 c7 c8 c9) (k0_pay100 c10) c11) (k0_pay102 (k0_pay99 (k0_pay98 c0 c1 c2 c3 c4) c5 c6 c7 c8 c9) (k0_pay100 c10) c11 pb wp w00 ws s0) (k0_pay103 (k0_pay99 (k0_pay98 c0 c1 c2 c3 c4) c5 c6 c7 c8 c9) (k0_pay100 c10) c11 pb wp w00 ws s0) s1 s2 s3 s4) (k0_pay105 (k0_pay101 (k0_pay99 (k0_pay98 c0 c1 c2 c3 c4) c5 c6 c7 c8 c9) (k0_pay100 c10) c11) (k0_pay102 (k0_pay99 (k0_pay98 c0 c1 c2 c3 c4) c5 c6 c7 c8 c9) (k0_pay100 c10) c11 pb wp w00 ws s0) (k0_pay103 (k0_pay99 (k0_pay98 c0 c1 c2 c3 c4) c5 c6 c7 c8 c9) (k0_pay100 c10) c11 pb wp w00 ws s0) s1 s2 s3 s4 s5) s6 s7 s8 wo
      = batchV (featsV (featV c0 c1 c2 c3 c4 c5 c6 c7 c8 c9 c10 c11)) pb wp w00 ws s0 s1 s2 s3 s4 s5 s6 s7 s8 wo := rfl

/-- Batch 5. -/
theorem batch5 : k0_pay117 (k0_pay110 (k0_pay109 (k0_pay108 (k0_pay107 c0) c1 c2 c3 c4 c5) c6 c7 c8 c9 c10 c11)) (k0_pay114 (k0_pay110 (k0_pay109 (k0_pay108 (k0_pay107 c0) c1 c2 c3 c4 c5) c6 c7 c8 c9 c10 c11)) (k0_pay111 (k0_pay109 (k0_pay108 (k0_pay107 c0) c1 c2 c3 c4 c5) c6 c7 c8 c9 c10 c11) pb wp w00 ws s0) (k0_pay112 (k0_pay109 (k0_pay108 (k0_pay107 c0) c1 c2 c3 c4 c5) c6 c7 c8 c9 c10 c11) pb wp w00 ws s0 s1) (k0_pay113 s2) s3 s4 s5 s6) (k0_pay115 (k0_pay110 (k0_pay109 (k0_pay108 (k0_pay107 c0) c1 c2 c3 c4 c5) c6 c7 c8 c9 c10 c11)) (k0_pay111 (k0_pay109 (k0_pay108 (k0_pay107 c0) c1 c2 c3 c4 c5) c6 c7 c8 c9 c10 c11) pb wp w00 ws s0) (k0_pay112 (k0_pay109 (k0_pay108 (k0_pay107 c0) c1 c2 c3 c4 c5) c6 c7 c8 c9 c10 c11) pb wp w00 ws s0 s1) (k0_pay113 s2) s3 s4 s5 s6) (k0_pay116 s7) (constant S1024x128 .f32 0#32) s8 wo
      = batchV (featsV (featV c0 c1 c2 c3 c4 c5 c6 c7 c8 c9 c10 c11)) pb wp w00 ws s0 s1 s2 s3 s4 s5 s6 s7 s8 wo := rfl

/-- Batch 6. -/
theorem batch6 : k0_pay126 (k0_pay125 (k0_pay121 (k0_pay119 (k0_pay118 c0 c1) c2 c3 c4 c5 c6) (k0_pay120 c7) c8 c9 c10 c11) (k0_pay123 (k0_pay121 (k0_pay119 (k0_pay118 c0 c1) c2 c3 c4 c5 c6) (k0_pay120 c7) c8 c9 c10 c11) (k0_pay122 pb) wp (constant S1024x1024 .f32 0#32) w00 ws s0 s1 s2) (k0_pay124 (k0_pay121 (k0_pay119 (k0_pay118 c0 c1) c2 c3 c4 c5 c6) (k0_pay120 c7) c8 c9 c10 c11) (k0_pay122 pb) wp (constant S1024x1024 .f32 0#32) w00 ws s0 s1 s2 s3) s4 s5 s6 s7 s8) (FloatOps.ofBits .f32 0#32) wo
      = batchV (featsV (featV c0 c1 c2 c3 c4 c5 c6 c7 c8 c9 c10 c11)) pb wp w00 ws s0 s1 s2 s3 s4 s5 s6 s7 s8 wo := rfl

/-- Batch 7. -/
theorem batch7 : k0_pay136 (k0_pay131 (k0_pay130 (k0_pay127 c0 c1 c2) (k0_pay128 c3) (k0_pay129 (F := Ideal)) c4 c5 c6 c7 c8) c9 c10 c11) (k0_pay134 (k0_pay131 (k0_pay130 (k0_pay127 c0 c1 c2) (k0_pay128 c3) (k0_pay129 (F := Ideal)) c4 c5 c6 c7 c8) c9 c10 c11) (k0_pay132 pb) (k0_pay133 pb wp w00) ws s0 s1 s2 s3 s4) (k0_pay135 (F := Ideal)) s5 s6 s7 s8 wo
      = batchV (featsV (featV c0 c1 c2 c3 c4 c5 c6 c7 c8 c9 c10 c11)) pb wp w00 ws s0 s1 s2 s3 s4 s5 s6 s7 s8 wo := rfl

end Cert.Batches

end
-- ==== Proof.Rows.lean ====
/- What the kernel leaves in its output buffer: eight rows, each the work of one batch over the five scratches. -/
module

public import proofs.«01_k».proof.Proof.Scratch
public import proofs.«01_k».proof.Proof.Batches

@[expose] public section

set_option maxRecDepth 16384

noncomputable section

namespace Cert.Rows

open Idealize.ShloMosaic Idealize.ShloMosaic.Pointwise Cert.KernelIdeal Cert.KernelIdeal.Gen Cert.Decoder Cert.Packed Cert.Scratch Cert.Batches

variable (x0 : Vec Ideal S8x4096x3 .f32) (x1 : Vec Ideal S8x3x2x2x32 .f32) (x2 : Vec Ideal S256x3 .f32) (x3 : Vec Ideal S32x256 .f32)
  (x4 : Vec Ideal S32x32 .f32) (x5 : Vec Ideal S32x256 .f32) (x6 x7 x8 x9 x10 x11 x12 x13 : Vec Ideal S32x32 .f32) (x14 : Vec Ideal S1x32 .f32)

/-- The nine square weights, in the order of their planes. -/
def squares : Fin 9 → Vec Ideal S32x32 .f32 := ![x4, x6, x7, x8, x9, x10, x11, x12, x13]

/-- The row of a batch: `q` its points, `v` its features. -/
def rowV (v : FVec Ideal S1x32 .f32) (q : Vec Ideal S1x4096x3 .f32) : FVec Ideal S1x4096 .f32 :=
  batchV (featsV v) q (wpS x2) (w00S x3) (wspS (k0_pay6 x5 x2)) (sqS 0 (squares x4 x6 x7 x8 x9 x10 x11 x12 x13))
    (sqS 1 (squares x4 x6 x7 x8 x9 x10 x11 x12 x13)) (sqS 2 (squares x4 x6 x7 x8 x9 x10 x11 x12 x13))
    (sqS 3 (squares x4 x6 x7 x8 x9 x10 x11 x12 x13)) (sqS 4 (squares x4 x6 x7 x8 x9 x10 x11 x12 x13))
    (sqS 5 (squares x4 x6 x7 x8 x9 x10 x11 x12 x13)) (sqS 6 (squares x4 x6 x7 x8 x9 x10 x11 x12 x13))
    (sqS 7 (squares x4 x6 x7 x8 x9 x10 x11 x12 x13)) (sqS 8 (squares x4 x6 x7 x8 x9 x10 x11 x12 x13)) (woutS x14)

/-- One corner's vector, loaded. -/
def cornerL (b : Fin 8) (l : Fin 3) (i j : Fin 2) : Vec Ideal S1x1x1x1x32 .f32 :=
  View.ld x1 (Rect.unit ![b.val, l.val, i.val, j.val, 0] S1x1x1x1x32.size
    (by intro x; fin_cases x <;> [exact b.isLt; exact l.isLt; exact i.isLt; exact j.isLt; exact le_rfl]))

/-- The features of a batch. -/
def feat (b : Fin 8) : FVec Ideal S1x32 .f32 :=
  featV (cornerL x1 b 0 0 0) (cornerL x1 b 0 0 1) (cornerL x1 b 0 1 0) (cornerL x1 b 0 1 1)
    (cornerL x1 b 1 0 0) (cornerL x1 b 1 0 1) (cornerL x1 b 1 1 0) (cornerL x1 b 1 1 1)
    (cornerL x1 b 2 0 0) (cornerL x1 b 2 0 1) (cornerL x1 b 2 1 0) (cornerL x1 b 2 1 1)

/-- The points of a batch, loaded. -/
def pointsL (b : Fin 8) : Vec Ideal S1x4096x3 .f32 :=
  View.ld x0 (Rect.unit ![b.val, 0, 0] S1x4096x3.size (by intro x; fin_cases x <;> [exact b.isLt; exact le_rfl; exact le_rfl]))

/-- The store of a batch's row. -/
def rowPiece (b : Fin 8) : View.Piece (Elt Ideal) S8x4096 .f32 :=
  ⟨Rect.unit ![b.val, 0] ![1, 4096] (by intro x; fin_cases x <;> [exact b.isLt; exact le_rfl]),
    rowV x2 x3 x4 x5 x6 x7 x8 x9 x10 x11 x12 x13 x14 (feat x1 b) (pointsL x0 b)⟩

/-- The batches, in the order of the stores, the last first. -/
def batches : List (Fin 8) := [7, 6, 5, 4, 3, 2, 1, 0]

/-- The eight rows. -/
def rows : List (View.Piece (Elt Ideal) S8x4096 .f32) :=
  batches.map (rowPiece x0 x1 x2 x3 x4 x5 x6 x7 x8 x9 x10 x11 x12 x13 x14) ++ []

/-- The output buffer holds exactly those rows. -/
theorem out_eq (c : Dev nD) (arg0 : Memref sig .tc .vmem S8x4096x3 .f32) (harg0 : arg0.IsWhole) (arg1 : Memref sig .tc .vmem S8x3x2x2x32 .f32) (harg1 : arg1.IsWhole) (arg2 : Memref sig .tc .vmem S256x3 .f32) (harg2 : arg2.IsWhole) (arg3 : Memref sig .tc .vmem S32x256 .f32) (harg3 : arg3.IsWhole) (arg4 : Memref sig .tc .vmem S32x32 .f32) (harg4 : arg4.IsWhole) (arg5 : Memref sig .tc .vmem S32x256 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S32x32 .f32) (harg11 : arg11.IsWhole) (arg12 : Memref sig .tc .vmem S32x32 .f32) (harg12 : arg12.IsWhole) (arg13 : Memref sig .tc .vmem S32x32 .f32) (harg13 : arg13.IsWhole) (arg14 : Memref sig .tc .vmem S1x32 .f32) (harg14 : arg14.IsWhole) (arg15 : Memref sig .tc .vmem S8x4096 .f32) (harg15 : arg15.IsWhole) :
    out0_A_15 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) x0 x1 x2 x3 x4 x5 x6 x7 x8 x9 x10 x11 x12 x13 x14
      = View.canon (rows x0 x1 x2 x3 x4 x5 x6 x7 x8 x9 x10 x11 x12 x13 x14) := by
  frame_open
  rw [View.read_writes_junk_eq_canon]
  simp (disch := decide) only [View.readAt_eq_ld, Memref.IsWhole.read_unread, View.ld_unit_lit']
  rw [batch0, batch1, batch2, batch3, batch4, batch5, batch6, batch7]
  rfl

end Cert.Rows

end
-- ==== Proof.Buffer.lean ====
/- The kernel's output buffer at an index: the decoder with the fused shortcut, run on one token's point with its batch's
   features. -/
module

public import proofs.«01_k».proof.Proof.Rows

@[expose] public section

set_option maxRecDepth 16384

noncomputable section

namespace Cert.Buffer

open Idealize.ShloMosaic Idealize.ShloMosaic.Pointwise Cert.KernelIdeal Cert.KernelIdeal.Gen Cert.Decoder Cert.Packed Cert.Scratch Cert.Rows
open scoped BigOperators

/-- Twelve corners, a quarter of each. -/
def corners (f : Fin 3 → Fin 2 → Fin 2 → EReal) : EReal :=
  ∑ l, ∑ i, ∑ j, ((1 / 4 : ℝ) : EReal) * f l i j

variable (x0 : Vec Ideal S8x4096x3 .f32) (x1 : Vec Ideal S8x3x2x2x32 .f32) (x2 : Vec Ideal S256x3 .f32) (x3 : Vec Ideal S32x256 .f32)
  (x4 : Vec Ideal S32x32 .f32) (x5 : Vec Ideal S32x256 .f32) (x6 x7 x8 x9 x10 x11 x12 x13 : Vec Ideal S32x32 .f32) (x14 : Vec Ideal S1x32 .f32)

/-- The decoder's weights, read from the arrays that hold them. -/
def weights : Weights where
  wp h d := x2 (ix2 h d)
  w00 h d := x3 (ix2 h d)
  w01 h d := x4 (ix2 h d)
  ws h d := x5 (ix2 h d)
  w10 h d := x6 (ix2 h d)
  w11 h d := x7 (ix2 h d)
  w20 h d := x8 (ix2 h d)
  w21 h d := x9 (ix2 h d)
  w30 h d := x10 (ix2 h d)
  w31 h d := x11 (ix2 h d)
  w40 h d := x12 (ix2 h d)
  w41 h d := x13 (ix2 h d)
  wout d := x14 (ix2 0 d)

/-- The word of a quarter. -/
theorem quarter_ofBits : (Ideal.ofBits .f32 0x3E800000#32 : EReal) = ((1 / 4 : ℝ) : EReal) := by
  simp [Ideal.ofBits, Ideal.ieee, -EReal.coe_mul]; norm_num

/-- The features of batch `b`. -/
def feats (b : Fin 8) : Fin 32 → EReal := fun d => corners fun l i j => x1 (ix5 b l i j d)

/-- A loaded corner at an index. -/
theorem cornerL_at (b : Fin 8) (l : Fin 3) (i j : Fin 2) (d : Fin 32) : cornerL x1 b l i j (ix5 0 0 0 0 d) = x1 (ix5 b l i j d) := by
  unfold cornerL
  exact congrArg x1 (funext fun a => Fin.ext ((Rect.idx_unit_val _ _ _ _ a).trans (by fin_cases a <;> first | rfl | exact Nat.zero_add _)))

/-- The features that the kernel sums up. -/
theorem feat_eq (b : Fin 8) : (fun d => feat x1 b (ix2 0 d)) = feats x1 b := by
  funext d
  pointwise [feat, featV, cornerV]
  simp only [cornerL_at, quarter_ofBits, feats, corners, Fin.sum_univ_three, Fin.sum_univ_two, add_assoc]

/-- The product of the two matrices of the shortcut, entry by entry. -/
theorem pay6_apply (o : Fin 32) (d : Fin 3) :
    k0_pay6 x5 x2 (ix2 o d) = wsp (weights x2 x3 x4 x5 x6 x7 x8 x9 x10 x11 x12 x13 x14) o d := by
  show _ = ∑ h : Fin 256, x5 (ix2 o h) * x2 (ix2 h d)
  pointwise [k0_pay6]

/-- A row at a token. -/
theorem rowV_apply (v : FVec Ideal S1x32 .f32) (q : Vec Ideal S1x4096x3 .f32) (t : Fin 4096) :
    rowV x2 x3 x4 x5 x6 x7 x8 x9 x10 x11 x12 x13 x14 v q (ix2 0 t)
      = rest (weights x2 x3 x4 x5 x6 x7 x8 x9 x10 x11 x12 x13 x14) (fun d => v (ix2 0 d))
          (firstFused (weights x2 x3 x4 x5 x6 x7 x8 x9 x10 x11 x12 x13 x14) (fun d => v (ix2 0 d)) fun d => q (ix3 0 t d)) := by
  obtain ⟨k, r, rfl⟩ : ∃ (k : Fin 4) (r : Fin 1024), at4 (n := 1024) k r = t := by
    have := t.isLt
    exact ⟨⟨t.val / 1024, by omega⟩, ⟨t.val % 1024, by omega⟩, Fin.ext (by dsimp only [at4]; omega)⟩
  have hs := wspS_diag (k0_pay6 x5 x2)
  rw [show (fun o d => k0_pay6 x5 x2 (ix2 o d)) = wsp (weights x2 x3 x4 x5 x6 x7 x8 x9 x10 x11 x12 x13 x14) from
    funext fun o => funext fun d => pay6_apply x2 x3 x4 x5 x6 x7 x8 x9 x10 x11 x12 x13 x14 o d] at hs
  have ho := woutS_diag x14
  rw [show (fun o d => x14 (ix2 o d)) = fun _ d => x14 (ix2 0 d) from
    funext fun o => funext fun d => by rw [Subsingleton.elim o 0]] at ho
  exact batchV_apply (weights x2 x3 x4 x5 x6 x7 x8 x9 x10 x11 x12 x13 x14) v q _ _ _ _ _ _ _ _ _ _ _ _ _ (wpS_diag x2) (w00S_diag x3) hs
    (sqS_diag 0 (squares x4 x6 x7 x8 x9 x10 x11 x12 x13)) (sqS_diag 1 (squares x4 x6 x7 x8 x9 x10 x11 x12 x13))
    (sqS_diag 2 (squares x4 x6 x7 x8 x9 x10 x11 x12 x13)) (sqS_diag 3 (squares x4 x6 x7 x8 x9 x10 x11 x12 x13))
    (sqS_diag 4 (squares x4 x6 x7 x8 x9 x10 x11 x12 x13)) (sqS_diag 5 (squares x4 x6 x7 x8 x9 x10 x11 x12 x13))
    (sqS_diag 6 (squares x4 x6 x7 x8 x9 x10 x11 x12 x13)) (sqS_diag 7 (squares x4 x6 x7 x8 x9 x10 x11 x12 x13))
    (sqS_diag 8 (squares x4 x6 x7 x8 x9 x10 x11 x12 x13))
    ho k r

/-- A store to another row leaves this one. -/
theorem row_other {n a p q a' : ℕ} {inb} (w : (⟨2, ![1, a']⟩ : Shape).Idx → Elt Ideal .f32)
    (L : List (View.Piece (Elt Ideal) (⟨2, ![n, a]⟩ : Shape) .f32)) (i : Fin n) (y : Fin a) (h : p ≠ i.val) :
    View.canon ((⟨Rect.unit ![p, q] ![1, a'] inb, w⟩ : View.Piece (Elt Ideal) (⟨2, ![n, a]⟩ : Shape) .f32) :: L) (ix2 i y)
      = View.canon L (ix2 i y) :=
  canon_miss w L _ 0 (show i.val < p ∨ p + 1 ≤ i.val by omega)

/-- The output buffer at a token. -/
theorem rows_apply (b : Fin 8) (t : Fin 4096) :
    View.canon (rows x0 x1 x2 x3 x4 x5 x6 x7 x8 x9 x10 x11 x12 x13 x14) (ix2 b t)
      = rest (weights x2 x3 x4 x5 x6 x7 x8 x9 x10 x11 x12 x13 x14) (feats x1 b)
          (firstFused (weights x2 x3 x4 x5 x6 x7 x8 x9 x10 x11 x12 x13 x14) (feats x1 b) fun d => x0 (ix3 b t d)) := by
  refine (canon_pick _ _ b (fun p hp L => row_other _ L b t fun e => hp (Fin.ext e)) batches (by decide)
    ((by decide : ∀ b : Fin 8, b ∈ batches) b) rfl).trans ?_
  refine (canon_hit _ _ _ (ix2 0 t) (by intro x; fin_cases x <;> first | rfl | exact (Nat.zero_add _).symm)).trans ?_
  rw [rowV_apply, feat_eq]
  refine congrArg (fun p => rest _ _ (firstFused _ _ p)) (funext fun d => ?_)
  exact congrArg x0 (funext fun a => Fin.ext ((Rect.idx_unit_val _ _ _ _ a).trans (by fin_cases a <;> first | rfl | exact Nat.zero_add _)))

end Cert.Buffer

end
-- ==== Proof.Final.lean ====
/- The kernel's result array as a function of its argument arrays at launch. -/
module

public import proofs.«01_k».proof.Proof.Buffer
public import proofs.«01_k».proof.Proof.Gen.KernelIdeal.Value

@[expose] public section

set_option maxRecDepth 16384

noncomputable section

namespace Cert.Final

open Idealize.ShloMosaic Idealize.ShloMosaic.TcCoe Idealize.ShloMosaic.Pointwise Cert.KernelIdeal Cert.KernelIdeal.Gen Cert.KernelIdeal.Value Cert.Decoder

variable (m : (ℓ : Loc nD τ sig) → Buf (Elt Ideal) ℓ) (c : Dev nD) (t : Fin cfg0.N)

/-- Window 15 has one block, the first. -/
theorem index15 : ∀ t : Fin cfg0.N, win0_15.index t = ![0, 0] :=
  (by decide +kernel : ∀ t : Fin grid0.N, win0_15.index t = ![0, 0])

/-- Window 0 has one block, the first. -/
theorem index0 : ∀ t : Fin cfg0.N, win0_0.index t = ![0, 0, 0] :=
  (by decide +kernel : ∀ t : Fin grid0.N, win0_0.index t = ![0, 0, 0])

/-- … which is its whole array. -/
theorem block0 : iblk m c 0 t = V m c main_arg0 := by
  funext y
  blk_simp [iblk]
  congr 1
  blk_ext [index0 t]

/-- Window 1 has one block, the first. -/
theorem index1 : ∀ t : Fin cfg0.N, win0_1.index t = ![0, 0, 0, 0, 0] :=
  (by decide +kernel : ∀ t : Fin grid0.N, win0_1.index t = ![0, 0, 0, 0, 0])

/-- … which is its whole array. -/
theorem block1 : iblk m c 1 t = V m c main_v0 := by
  funext y
  blk_simp [iblk]
  congr 1
  blk_ext [index1 t]

/-- Window 2 has one block, the first. -/
theorem index2 : ∀ t : Fin cfg0.N, win0_2.index t = ![0, 0] :=
  (by decide +kernel : ∀ t : Fin grid0.N, win0_2.index t = ![0, 0])

/-- … which is its whole array. -/
theorem block2 : iblk m c 2 t = V m c main_arg4 := by
  funext y
  blk_simp [iblk]
  congr 1
  blk_ext [index2 t]

/-- Window 3 has one block, the first. -/
theorem index3 : ∀ t : Fin cfg0.N, win0_3.index t = ![0, 0] :=
  (by decide +kernel : ∀ t : Fin grid0.N, win0_3.index t = ![0, 0])

/-- … which is its whole array. -/
theorem block3 : iblk m c 3 t = V m c main_arg6 := by
  funext y
  blk_simp [iblk]
  congr 1
  blk_ext [index3 t]

/-- Window 4 has one block, the first. -/
theorem index4 : ∀ t : Fin cfg0.N, win0_4.index t = ![0, 0] :=
  (by decide +kernel : ∀ t : Fin grid0.N, win0_4.index t = ![0, 0])

/-- … which is its whole array. -/
theorem block4 : iblk m c 4 t = V m c main_arg8 := by
  funext y
  blk_simp [iblk]
  congr 1
  blk_ext [index4 t]

/-- Window 5 has one block, the first. -/
theorem index5 : ∀ t : Fin cfg0.N, win0_5.index t = ![0, 0] :=
  (by decide +kernel : ∀ t : Fin grid0.N, win0_5.index t = ![0, 0])

/-- … which is its whole array. -/
theorem block5 : iblk m c 5 t = V m c main_arg10 := by
  funext y
  blk_simp [iblk]
  congr 1
  blk_ext [index5 t]

/-- Window 6 has one block, the first. -/
theorem index6 : ∀ t : Fin cfg0.N, win0_6.index t = ![0, 0] :=
  (by decide +kernel : ∀ t : Fin grid0.N, win0_6.index t = ![0, 0])

/-- … which is its whole array. -/
theorem block6 : iblk m c 6 t = V m c main_arg11 := by
  funext y
  blk_simp [iblk]
  congr 1
  blk_ext [index6 t]

/-- Window 7 has one block, the first. -/
theorem index7 : ∀ t : Fin cfg0.N, win0_7.index t = ![0, 0] :=
  (by decide +kernel : ∀ t : Fin grid0.N, win0_7.index t = ![0, 0])

/-- … which is its whole array. -/
theorem block7 : iblk m c 7 t = V m c main_arg13 := by
  funext y
  blk_simp [iblk]
  congr 1
  blk_ext [index7 t]

/-- Window 8 has one block, the first. -/
theorem index8 : ∀ t : Fin cfg0.N, win0_8.index t = ![0, 0] :=
  (by decide +kernel : ∀ t : Fin grid0.N, win0_8.index t = ![0, 0])

/-- … which is its whole array. -/
theorem block8 : iblk m c 8 t = V m c main_arg15 := by
  funext y
  blk_simp [iblk]
  congr 1
  blk_ext [index8 t]

/-- Window 9 has one block, the first. -/
theorem index9 : ∀ t : Fin cfg0.N, win0_9.index t = ![0, 0] :=
  (by decide +kernel : ∀ t : Fin grid0.N, win0_9.index t = ![0, 0])

/-- … which is its whole array. -/
theorem block9 : iblk m c 9 t = V m c main_arg17 := by
  funext y
  blk_simp [iblk]
  congr 1
  blk_ext [index9 t]

/-- Window 10 has one block, the first. -/
theorem index10 : ∀ t : Fin cfg0.N, win0_10.index t = ![0, 0] :=
  (by decide +kernel : ∀ t : Fin grid0.N, win0_10.index t = ![0, 0])

/-- … which is its whole array. -/
theorem block10 : iblk m c 10 t = V m c main_arg19 := by
  funext y
  blk_simp [iblk]
  congr 1
  blk_ext [index10 t]

/-- Window 11 has one block, the first. -/
theorem index11 : ∀ t : Fin cfg0.N, win0_11.index t = ![0, 0] :=
  (by decide +kernel : ∀ t : Fin grid0.N, win0_11.index t = ![0, 0])

/-- … which is its whole array. -/
theorem block11 : iblk m c 11 t = V m c main_arg21 := by
  funext y
  blk_simp [iblk]
  congr 1
  blk_ext [index11 t]

/-- Window 12 has one block, the first. -/
theorem index12 : ∀ t : Fin cfg0.N, win0_12.index t = ![0, 0] :=
  (by decide +kernel : ∀ t : Fin grid0.N, win0_12.index t = ![0, 0])

/-- … which is its whole array. -/
theorem block12 : iblk m c 12 t = V m c main_arg23 := by
  funext y
  blk_simp [iblk]
  congr 1
  blk_ext [index12 t]

/-- Window 13 has one block, the first. -/
theorem index13 : ∀ t : Fin cfg0.N, win0_13.index t = ![0, 0] :=
  (by decide +kernel : ∀ t : Fin grid0.N, win0_13.index t = ![0, 0])

/-- … which is its whole array. -/
theorem block13 : iblk m c 13 t = V m c main_arg25 := by
  funext y
  blk_simp [iblk]
  congr 1
  blk_ext [index13 t]

/-- Window 14 has one block, the first. -/
theorem index14 : ∀ t : Fin cfg0.N, win0_14.index t = ![0, 0] :=
  (by decide +kernel : ∀ t : Fin grid0.N, win0_14.index t = ![0, 0])

/-- … which is its whole array. -/
theorem block14 : iblk m c 14 t = V m c main_arg27 := by
  funext y
  blk_simp [iblk]
  congr 1
  blk_ext [index14 t]

/-- The second window's array is the four corners the points lie between, cut from the feature planes. -/
theorem V_main_v0 : V m c main_v0
    = extractStridedSlice S8x3x2x2x32 ![0, 0, 63, 63, 0] (m ((c : Thread nD τ).loc main_arg2)) slices_S8x3x128x128x32_S8x3x2x2x32_0_0_63_63_0 := by
  rfl

/-- The four corners of batch `b`'s planes the points lie between. -/
def near (x : Vec Ideal S8x3x128x128x32 .f32) (b : Fin 8) : Fin 32 → EReal :=
  fun d => Buffer.corners fun l i j => x (ix5 b l ⟨63 + i.val, by omega⟩ ⟨63 + j.val, by omega⟩ d)

/-- The corners cut out by the host are the corners of the planes. -/
theorem feats_eq (b : Fin 8) : Buffer.feats (V m c main_v0) b = near (m ((c : Thread nD τ).loc main_arg2)) b := by
  funext d
  refine congrArg Buffer.corners (funext fun l => funext fun i => funext fun j => ?_)
  rw [V_main_v0]
  pointwise

/-- The decoder's weights at launch. -/
def W : Weights :=
  Buffer.weights (m ((c : Thread nD τ).loc main_arg4)) (m ((c : Thread nD τ).loc main_arg6)) (m ((c : Thread nD τ).loc main_arg8)) (m ((c : Thread nD τ).loc main_arg10)) (m ((c : Thread nD τ).loc main_arg11)) (m ((c : Thread nD τ).loc main_arg13)) (m ((c : Thread nD τ).loc main_arg15)) (m ((c : Thread nD τ).loc main_arg17)) (m ((c : Thread nD τ).loc main_arg19)) (m ((c : Thread nD τ).loc main_arg21)) (m ((c : Thread nD τ).loc main_arg23)) (m ((c : Thread nD τ).loc main_arg25)) (m ((c : Thread nD τ).loc main_arg27))

/-- What the body leaves at row `b`, column `t` of its buffer, over the launch arrays. -/
theorem rows_at (b : Fin 8) (t : Fin 4096) :
    View.canon (Rows.rows (V m c main_arg0) (V m c main_v0) (V m c main_arg4) (V m c main_arg6) (V m c main_arg8) (V m c main_arg10) (V m c main_arg11) (V m c main_arg13) (V m c main_arg15) (V m c main_arg17) (V m c main_arg19) (V m c main_arg21) (V m c main_arg23) (V m c main_arg25) (V m c main_arg27)) (ix2 b t)
      = rest (W m c) (near (m ((c : Thread nD τ).loc main_arg2)) b)
          (firstFused (W m c) (near (m ((c : Thread nD τ).loc main_arg2)) b) fun d => m ((c : Thread nD τ).loc main_arg0) (ix3 b t d)) := by
  rw [Buffer.rows_apply, feats_eq, V_main_arg0, V_main_arg4, V_main_arg6, V_main_arg8, V_main_arg10, V_main_arg11, V_main_arg13, V_main_arg15, V_main_arg17, V_main_arg19, V_main_arg21, V_main_arg23, V_main_arg25, V_main_arg27]
  rfl

/-- The result array at row `b`, column `t`: the fused decoder of point `t` of batch `b`. -/
theorem final : (dats m 0 c).arrAt 15 cfg0.N = fun y : S8x4096.Idx =>
    rest (W m c) (near (m ((c : Thread nD τ).loc main_arg2)) (y 0))
      (firstFused (W m c) (near (m ((c : Thread nD τ).loc main_arg2)) (y 0)) fun d => (m ((c : Thread nD τ).loc main_arg0)) (ix3 (y 0) (y 1) d)) := by
  refine (dats m 0 c).arrAt_eq_of_covers 15 _ (by decide +kernel) fun t hf y => ?_
  have hy : (win0_15.blk t).view.emb y = y := by blk_ext [index15 t]
  blk_simp
  rw [after0_15]
  unfold outsAt0
  rw [Rows.out_eq, block0, block1, block2, block3, block4, block5, block6, block7, block8, block9, block10, block11, block12, block13, block14]
  rw [hy]
  refine (congrArg _ (eq_ix2 (n0 := 8) (n1 := 4096) y)).trans ?_
  exact rows_at m c (y 0) (y 1)

end Cert.Final

end
-- ==== Proof.Cell.lean ====
/- Where the reference's points fall in the grid, when the table of projections is zero: every point projects to the
   middle of the planes, between cells 63 and 64 along both axes. -/
module

public import Idealize.ShloMosaic.Lib.Pointwise
public import proofs.«01_k».proof.Proof.Gen.ReferenceIdeal.Read

@[expose] public section

set_option maxRecDepth 16384

noncomputable section

namespace Cert.Cell

open Idealize.ShloMosaic Idealize.ShloMosaic.Pointwise Cert.ReferenceIdeal Cert.ReferenceIdeal.Gen Cert.ReferenceIdeal.Read

/-- The word of 2. -/
theorem two_ofBits : (Ideal.ofBits .f32 0x40000000#32 : EReal) = ((2 : ℝ) : EReal) := by
  simp [Ideal.ofBits, Ideal.ieee, -EReal.coe_mul]; try norm_num

/-- The word of 127. -/
theorem n127_ofBits : (Ideal.ofBits .f32 0x42FE0000#32 : EReal) = ((127 : ℝ) : EReal) := by
  simp [Ideal.ofBits, Ideal.ieee, -EReal.coe_mul]; norm_num

/-- The word of 1. -/
theorem one_ofBits : (Ideal.ofBits .f32 0x3F800000#32 : EReal) = ((1 : ℝ) : EReal) := by
  simp [Ideal.ofBits, Ideal.ieee, -EReal.coe_mul]; try norm_num

/-- The word nearest to 1/20. -/
theorem small_ofBits : (Ideal.ofBits .f32 0x3D4CCCCD#32 : EReal) = ((13421773 / 268435456 : ℝ) : EReal) := by
  simp [Ideal.ofBits, Ideal.ieee, -EReal.coe_mul]; norm_num

/-- The word of 0. -/
theorem zero_ofBits : (Ideal.ofBits .f32 0x00000000#32 : EReal) = 0 := by
  simp [Ideal.ofBits, Ideal.ieee]

variable (x0 : (⟨S8x4096x3, .f32⟩ : BufTy).Contents (Elt Ideal)) (x3 : (⟨S8x3x4x3, .f32⟩ : BufTy).Contents (Elt Ideal))
  (hC : ∀ i, x3 i = (0 : EReal))

include hC

/-- The projected points are zero. -/
theorem v4_zero (i : S8x4096x3x3.Idx) : val_main_v4 (F := Ideal) x0 x3 i = (0 : EReal) := by
  rw [val_main_v4_apply]
  refine Finset.sum_eq_zero fun k _ => ?_
  rw [val_main_v3_apply, hC, mul_zero]

/-- The divisor is the small constant. -/
theorem v11_small (i : S8x3x4096x3.Idx) : val_main_v11 (F := Ideal) x3 i = ((13421773 / 268435456 : ℝ) : EReal) := by
  rw [val_main_v11_apply, val_main_v10_apply, val_main_v9_apply, val_main_v7_apply, val_main_v6_apply, hC, val_main_v8_apply,
    val_main_cst_2_apply, Ideal.addf_def, Ideal.ofBits_def, small_ofBits, zero_add]

/-- So the divided points are zero. -/
theorem v12_zero (i : S8x3x4096x3.Idx) : val_main_v12 (F := Ideal) x0 x3 i = (0 : EReal) := by
  rw [val_main_v12_apply, v11_small x3 hC, val_main_v5_apply, v4_zero x0 x3 hC, Ideal.hostDivf_def,
    Ideal.div_coe (by norm_num), zero_mul]

/-- The place along an axis is 63.5. -/
theorem v18_place (i : S8x3x4096x2.Idx) : val_main_v18 (F := Ideal) x0 x3 i = ((127 / 2 : ℝ) : EReal) := by
  rw [val_main_v18_apply, val_main_v15_apply, val_main_v13_apply, v12_zero x0 x3 hC, val_main_v14_apply, val_main_cst_3_apply,
    val_main_v17_apply, val_main_v16_apply, val_main_v0_apply, val_main_cst_apply, val_main_cst_0_apply]
  simp only [Ideal.hostDivf_def, Ideal.addf_def, Ideal.ofBits_def, one_ofBits, two_ofBits, n127_ofBits, zero_add]
  rw [Ideal.div_coe (by norm_num), ← EReal.coe_mul, Ideal.div_coe (by norm_num), ← EReal.coe_mul]
  norm_num

/-- … along the first axis … -/
theorem v20_place (i : S8x3x4096.Idx) : val_main_v20 (F := Ideal) x0 x3 i = ((127 / 2 : ℝ) : EReal) := by
  rw [val_main_v20_apply, val_main_v19_apply, v18_place x0 x3 hC]

/-- … and the second. -/
theorem v22_place (i : S8x3x4096.Idx) : val_main_v22 (F := Ideal) x0 x3 i = ((127 / 2 : ℝ) : EReal) := by
  rw [val_main_v22_apply, val_main_v21_apply, v18_place x0 x3 hC]

omit hC

/-- 63.5 rounds down to 63 … -/
theorem floor_place : FloatOps.fptosi (F := Ideal) (φ := .f32) 32 (FloatOps.hostUnary (F := Ideal) (φ := .f32) .floor ((127 / 2 : ℝ) : EReal)) = 63#32 := by
  show Ideal.fptosi 32 (Ideal.liftRound Int.floor ((127 / 2 : ℝ) : EReal)) = _
  have h : ⌊(127 / 2 : ℝ)⌋ = 63 := by rw [Int.floor_eq_iff]; norm_num
  rw [Ideal.liftRound_coe, h, Ideal.fptosi, Ideal.toIntClamped_coe]
  norm_num

/-- … and up to 64. -/
theorem ceil_place : FloatOps.fptosi (F := Ideal) (φ := .f32) 32 (FloatOps.hostUnary (F := Ideal) (φ := .f32) .ceil ((127 / 2 : ℝ) : EReal)) = 64#32 := by
  show Ideal.fptosi 32 (Ideal.liftRound Int.ceil ((127 / 2 : ℝ) : EReal)) = _
  have h : ⌈(127 / 2 : ℝ)⌉ = 64 := by rw [Int.ceil_eq_iff]; norm_num
  rw [Ideal.liftRound_coe, h, Ideal.fptosi, Ideal.toIntClamped_coe]
  norm_num

include hC

/-- The lower cell along the first axis. -/
theorem v24_word (i : S8x3x4096.Idx) : val_main_v24 (F := Ideal) x0 x3 i = 63#32 := by
  rw [val_main_v24_apply, val_main_v23_apply, v20_place x0 x3 hC, floor_place]

/-- The upper cell along the first axis. -/
theorem v26_word (i : S8x3x4096.Idx) : val_main_v26 (F := Ideal) x0 x3 i = 64#32 := by
  rw [val_main_v26_apply, val_main_v25_apply, v20_place x0 x3 hC, ceil_place]

/-- The lower cell along the second axis. -/
theorem v28_word (i : S8x3x4096.Idx) : val_main_v28 (F := Ideal) x0 x3 i = 63#32 := by
  rw [val_main_v28_apply, val_main_v27_apply, v22_place x0 x3 hC, floor_place]

/-- The upper cell along the second axis. -/
theorem v30_word (i : S8x3x4096.Idx) : val_main_v30 (F := Ideal) x0 x3 i = 64#32 := by
  rw [val_main_v30_apply, val_main_v29_apply, v22_place x0 x3 hC, ceil_place]

/-- The distance to the upper cell along the first axis is one half … -/
theorem v33_half (i : S8x3x4096x1.Idx) : val_main_v33 (F := Ideal) x0 x3 i = ((1 / 2 : ℝ) : EReal) := by
  rw [val_main_v33_apply, val_main_v32_apply, val_main_v31_apply, v26_word x0 x3 hC, v20_place x0 x3 hC]
  show ((((64#32).toInt : ℤ) : ℝ) : EReal) - ((127 / 2 : ℝ) : EReal) = _
  rw [← EReal.coe_sub, show (64#32).toInt = 64 from by decide]
  norm_num

/-- … and along the second. -/
theorem v36_half (i : S8x3x4096x1.Idx) : val_main_v36 (F := Ideal) x0 x3 i = ((1 / 2 : ℝ) : EReal) := by
  rw [val_main_v36_apply, val_main_v35_apply, val_main_v34_apply, v30_word x0 x3 hC, v22_place x0 x3 hC]
  show ((((64#32).toInt : ℤ) : ℝ) : EReal) - ((127 / 2 : ℝ) : EReal) = _
  rw [← EReal.coe_sub, show (64#32).toInt = 64 from by decide]
  norm_num

omit hC

/-- A word that is not negative is kept by the wrap of negative ones. -/
theorem wrap (w n : BitVec 32) (h : ¬ w.toInt < 0) :
    Scalar.select (IntOp.cmpi .slt w 0#32) (IntOp.addi w n) w = w := by
  have h0 : IntOp.cmpi .slt w 0#32 = 0#1 := by
    show BitVec.ofBool (BitVec.slt w 0#32) = _
    rw [show BitVec.slt w 0#32 = false from by simpa [BitVec.slt] using h]
    rfl
  rw [h0]; rfl

end Cert.Cell

end
-- ==== Proof.Gather.lean ====
/- The reference's lookup of feature vectors, read at an index: which vector it takes, from the four start words. -/
module

public import Idealize.ShloMosaic.Lib.Pointwise
public import proofs.«01_k».proof.ReferenceIdeal

@[expose] public section

set_option maxRecDepth 16384

noncomputable section

namespace Cert.Gather

open Idealize.ShloMosaic Idealize.ShloMosaic.Pointwise Cert.ReferenceIdeal

variable [Facts] {α : Type}

/-- The lookup's dimension numbers. -/
abbrev G : GatherDims S8x3x128x128x32 S8x3x4096x4 S8x3x4096x32 :=
  gather_S8x3x128x128x32_S8x3x4096x4_S8x3x4096x32_3_0123_n_n_0123_3_111132

/-- The words start the first four axes … -/
theorem mem_map (a : Fin 4) : a.castSucc ∈ ([0, 1, 2, 3] : List (Fin 5)) := by
  revert a; decide

/-- … and not the last. -/
theorem not_mem_map : (4 : Fin 5) ∉ ([0, 1, 2, 3] : List (Fin 5)) := by decide

/-- No axis is a batching one, and the first four are started by the words and collapsed. -/
theorem coord_started (idx : IVec S8x3x4096x4 32) (b : Fin 8) (l : Fin 3) (t : Fin 4096) (d : Fin 32) (a : Fin 4) :
    G.start (ix4 b l t d) idx (a.castSucc) + G.batchCoord (ix4 b l t d) a.castSucc + G.offCoord (ix4 b l t d) a.castSucc
      = min (idx (ix4 b l t a)).toInt.toNat (S8x3x128x128x32.size a.castSucc - 1) := by
  rw [GatherDims.batchCoord_eq_zero _ _ _ List.not_mem_nil,
    GatherDims.offCoord_eq_zero _ _ _ (fun h => ((GatherDims.mem_sKept _ _).mp h).1 (mem_map a))]
  simp only [Nat.add_zero]
  unfold GatherDims.start
  have hm : a.castSucc ∈ G.startIndexMap := mem_map a
  rw [dif_pos hm]
  have hsi : G.siIdx (ix4 b l t d) ⟨List.idxOf a.castSucc G.startIndexMap, List.idxOf_lt_length_iff.2 hm⟩ = ix4 b l t a := by
    funext e
    refine Fin.ext ?_
    fin_cases a <;> fin_cases e <;> rfl
  rw [hsi]
  fin_cases a <;> rfl

/-- The last axis is taken whole. -/
theorem coord_offset (idx : IVec S8x3x4096x4 32) (b : Fin 8) (l : Fin 3) (t : Fin 4096) (d : Fin 32) :
    G.start (ix4 b l t d) idx 4 + G.batchCoord (ix4 b l t d) 4 + G.offCoord (ix4 b l t d) 4 = d.val := by
  rw [GatherDims.batchCoord_eq_zero _ _ _ List.not_mem_nil]
  have hs : G.start (ix4 b l t d) idx 4 = 0 := by
    unfold GatherDims.start
    exact dif_neg not_mem_map
  rw [hs]
  unfold GatherDims.offCoord
  simp only [Nat.zero_add]
  refine (dif_pos ((GatherDims.mem_sKept _ _).mpr ⟨not_mem_map, List.not_mem_nil⟩)).trans ?_
  rfl

/-- The lookup at an index, where the four words name a vector `(p, q, r, s)` of the table. -/
theorem gather_at (x : S8x3x128x128x32.Idx → α) (idx : IVec S8x3x4096x4 32) (b : Fin 8) (l : Fin 3) (t : Fin 4096) (d : Fin 32)
    (p : Fin 8) (q : Fin 3) (r s : Fin 128)
    (h0 : (idx (ix4 b l t 0)).toInt.toNat = p.val) (h1 : (idx (ix4 b l t 1)).toInt.toNat = q.val)
    (h2 : (idx (ix4 b l t 2)).toInt.toNat = r.val) (h3 : (idx (ix4 b l t 3)).toInt.toNat = s.val) :
    Host.gather G x idx (ix4 b l t d) = x (ix5 p q r s d) := by
  unfold Host.gather
  congr 1
  funext a
  refine Fin.ext ?_
  show G.start (ix4 b l t d) idx a + G.batchCoord (ix4 b l t d) a + G.offCoord (ix4 b l t d) a = _
  fin_cases a
  · refine (coord_started idx b l t d 0).trans ?_
    rw [h0]; exact min_eq_left (by have := p.isLt; show p.val ≤ 7; omega)
  · refine (coord_started idx b l t d 1).trans ?_
    rw [h1]; exact min_eq_left (by have := q.isLt; show q.val ≤ 2; omega)
  · refine (coord_started idx b l t d 2).trans ?_
    rw [h2]; exact min_eq_left (by have := r.isLt; show r.val ≤ 127; omega)
  · refine (coord_started idx b l t d 3).trans ?_
    rw [h3]; exact min_eq_left (by have := s.isLt; show s.val ≤ 127; omega)
  · exact coord_offset idx b l t d

end Cert.Gather

end
-- ==== Proof.Lookup.lean ====
/- Which vectors the reference looks up, when the table of projections is zero: the words that it looks up at, and the four
   vectors around the middle of each plane. -/
module

public import proofs.«01_k».proof.Proof.Cell
public import proofs.«01_k».proof.Proof.Gather

@[expose] public section

set_option maxRecDepth 16384

noncomputable section

namespace Cert.Lookup

open Idealize.ShloMosaic Idealize.ShloMosaic.Pointwise Cert.ReferenceIdeal Cert.ReferenceIdeal.Gen Cert.ReferenceIdeal.Read Cert.Cell

/-- A batch number as a word is not negative … -/
theorem batch_nonneg : ∀ n : Fin 8, ¬ (BitVec.ofNat 32 n.val).toInt < 0 := by decide

/-- … and reads back. -/
theorem batch_back : ∀ n : Fin 8, (BitVec.ofNat 32 n.val).toInt.toNat = n.val := by decide

/-- A plane number as a word is not negative … -/
theorem plane_nonneg : ∀ n : Fin 3, ¬ (BitVec.ofNat 32 n.val).toInt < 0 := by decide

/-- … and reads back. -/
theorem plane_back : ∀ n : Fin 3, (BitVec.ofNat 32 n.val).toInt.toNat = n.val := by decide

/-- The batch words. -/
theorem v38_word (i : S8x1x1.Idx) : val_main_v38 (F := Ideal) i = BitVec.ofNat 32 (i 0).val := by
  rw [val_main_v38_apply]; rfl

/-- The plane words. -/
theorem v40_word (i : S1x3x1.Idx) : val_main_v40 (F := Ideal) i = BitVec.ofNat 32 (i 1).val := by
  rw [val_main_v40_apply]; rfl

/-- A cell number as a word is not negative … -/
theorem cell_nonneg : ∀ n : Fin 128, ¬ (BitVec.ofNat 32 n.val).toInt < 0 := by decide

/-- … and reads back. -/
theorem cell_back : ∀ n : Fin 128, (BitVec.ofNat 32 n.val).toInt.toNat = n.val := by decide

/-- The batch words after the wrap of negative ones. -/
theorem v45_word (i : S8x1x1.Idx) : val_main_v45 (F := Ideal) i = BitVec.ofNat 32 (i 0).val := by
  rw [val_main_v45_apply, val_main_v42_apply, val_main_v44_apply, v38_word, val_main_v41_apply, val_main_c_apply]
  exact wrap _ _ (batch_nonneg (i 0))

/-- The plane words after the wrap of negative ones. -/
theorem v50_word (i : S1x3x1.Idx) : val_main_v50 (F := Ideal) i = BitVec.ofNat 32 (i 1).val := by
  rw [val_main_v50_apply, val_main_v47_apply, val_main_v49_apply, v40_word, val_main_v46_apply, val_main_c_5_apply]
  exact wrap _ _ (plane_nonneg (i 1))

/-! ## One lookup, from the cells along the two axes -/

/-- The cells along an axis after the wrap of negative ones. -/
def wrapV (c : IVec S8x3x4096 32) : IVec S8x3x4096 32 :=
  select (cmpi .slt c (val_main_v51 (F := Ideal))) (addi c (val_main_v53 (F := Ideal))) c

/-- Those cells, as a column. -/
def columnV (c : IVec S8x3x4096 32) : IVec S8x3x4096x1 32 :=
  broadcastInDim S8x3x4096x1 ![0, 1, 2] bcast_S8x3x4096_S8x3x4096x1_0_1_2 c

/-- The four words of every point side by side. -/
def wordsV (y0 y1 y2 y3 : IVec S8x3x4096x1 32) : IVec S8x3x4096x4 32 :=
  concatenate S8x3x4096x4 3 [⟨S8x3x4096x1, y0⟩, ⟨S8x3x4096x1, y1⟩, ⟨S8x3x4096x1, y2⟩, ⟨S8x3x4096x1, y3⟩]
    concatenates_S8x3x4096x1_S8x3x4096x1_S8x3x4096x1_S8x3x4096x1_S8x3x4096x4_d3

/-- The vectors looked up. -/
def lookV (x : FVec Ideal S8x3x128x128x32 .f32) (cx cy : IVec S8x3x4096 32) : FVec Ideal S8x3x4096x32 .f32 :=
  Host.gather gather_S8x3x128x128x32_S8x3x4096x4_S8x3x4096x32_3_0123_n_n_0123_3_111132 x
    (wordsV (val_main_v63 (F := Ideal)) (val_main_v64 (F := Ideal)) (columnV (wrapV cx)) (columnV (wrapV cy)))

section Words
variable (y0 y1 y2 y3 : IVec S8x3x4096x1 32) (b : Fin 8) (l : Fin 3) (t : Fin 4096)

/-- The first word of a point … -/
theorem wordsV_at0 : wordsV y0 y1 y2 y3 (ix4 b l t 0) = y0 (ix4 b l t 0) := by pointwise [wordsV]

/-- … the second … -/
theorem wordsV_at1 : wordsV y0 y1 y2 y3 (ix4 b l t 1) = y1 (ix4 b l t 0) := by pointwise [wordsV]

/-- … the third … -/
theorem wordsV_at2 : wordsV y0 y1 y2 y3 (ix4 b l t 2) = y2 (ix4 b l t 0) := by pointwise [wordsV]

/-- … and the fourth. -/
theorem wordsV_at3 : wordsV y0 y1 y2 y3 (ix4 b l t 3) = y3 (ix4 b l t 0) := by pointwise [wordsV]

end Words

/-- A cell's word, where all the cells are the same. -/
theorem column_word (c : IVec S8x3x4096 32) (m : Fin 128) (hc : ∀ i, c i = BitVec.ofNat 32 m.val) (b : Fin 8) (l : Fin 3) (t : Fin 4096) :
    columnV (wrapV c) (ix4 b l t 0) = BitVec.ofNat 32 m.val := by
  have e : columnV (wrapV c) (ix4 b l t 0) = wrapV c (ix3 b l t) := by
    unfold columnV
    generalize wrapV c = y
    pointwise
  rw [e]
  show Scalar.select (IntOp.cmpi .slt (c _) 0#32) (IntOp.addi (c _) _) (c _) = _
  rw [hc]
  exact wrap _ _ (cell_nonneg m)

/-- The vector looked up for a point, where all the cells along either axis are the same. -/
theorem lookV_at (x : FVec Ideal S8x3x128x128x32 .f32) (cx cy : IVec S8x3x4096 32) (m n : Fin 128)
    (hx : ∀ i, cx i = BitVec.ofNat 32 m.val) (hy : ∀ i, cy i = BitVec.ofNat 32 n.val) (b : Fin 8) (l : Fin 3) (t : Fin 4096) (d : Fin 32) :
    lookV x cx cy (ix4 b l t d) = x (ix5 b l m n d) := by
  unfold lookV
  refine Gather.gather_at x _ b l t d b l m n ?_ ?_ ?_ ?_
  · rw [wordsV_at0, val_main_v63_apply, val_main_v61_apply, v45_word]; exact batch_back b
  · rw [wordsV_at1, val_main_v64_apply, val_main_v62_apply, v50_word]; exact plane_back l
  · rw [wordsV_at2, column_word cx m hx]; exact cell_back m
  · rw [wordsV_at3, column_word cy n hy]; exact cell_back n

/-! ## The four corners -/

variable (x0 : (⟨S8x4096x3, .f32⟩ : BufTy).Contents (Elt Ideal)) (x2 : (⟨S8x3x128x128x32, .f32⟩ : BufTy).Contents (Elt Ideal))
  (x3 : (⟨S8x3x4x3, .f32⟩ : BufTy).Contents (Elt Ideal)) (hC : ∀ i, x3 i = (0 : EReal))
include hC

/-- The vector at the first corner. -/
theorem v68_at (b : Fin 8) (l : Fin 3) (t : Fin 4096) (d : Fin 32) :
    val_main_v68 (F := Ideal) x0 x2 x3 (ix4 b l t d) = x2 (ix5 b l 63 63 d) :=
  lookV_at x2 (val_main_v24 (F := Ideal) x0 x3) (val_main_v28 (F := Ideal) x0 x3) 63 63 (v24_word x0 x3 hC) (v28_word x0 x3 hC) b l t d

/-- The vector at the second corner. -/
theorem v96_at (b : Fin 8) (l : Fin 3) (t : Fin 4096) (d : Fin 32) :
    val_main_v96 (F := Ideal) x0 x2 x3 (ix4 b l t d) = x2 (ix5 b l 64 63 d) :=
  lookV_at x2 (val_main_v26 (F := Ideal) x0 x3) (val_main_v28 (F := Ideal) x0 x3) 64 63 (v26_word x0 x3 hC) (v28_word x0 x3 hC) b l t d

/-- The vector at the third corner. -/
theorem v124_at (b : Fin 8) (l : Fin 3) (t : Fin 4096) (d : Fin 32) :
    val_main_v124 (F := Ideal) x0 x2 x3 (ix4 b l t d) = x2 (ix5 b l 63 64 d) :=
  lookV_at x2 (val_main_v24 (F := Ideal) x0 x3) (val_main_v30 (F := Ideal) x0 x3) 63 64 (v24_word x0 x3 hC) (v30_word x0 x3 hC) b l t d

/-- The vector at the fourth corner. -/
theorem v152_at (b : Fin 8) (l : Fin 3) (t : Fin 4096) (d : Fin 32) :
    val_main_v152 (F := Ideal) x0 x2 x3 (ix4 b l t d) = x2 (ix5 b l 64 64 d) :=
  lookV_at x2 (val_main_v26 (F := Ideal) x0 x3) (val_main_v30 (F := Ideal) x0 x3) 64 64 (v26_word x0 x3 hC) (v30_word x0 x3 hC) b l t d

end Cert.Lookup

end
-- ==== Proof.Planes.lean ====
/- The feature vector the reference adds up for a point, when the table of projections is zero: the four corners around the
   middle of each plane, each with weight one quarter, over the three planes. -/
module

public import proofs.«01_k».proof.Proof.Lookup
public import proofs.«01_k».proof.Proof.Buffer

@[expose] public section

set_option maxRecDepth 16384

noncomputable section

namespace Cert.Planes

open Idealize.ShloMosaic Idealize.ShloMosaic.Pointwise Cert.ReferenceIdeal Cert.ReferenceIdeal.Gen Cert.ReferenceIdeal.Read Cert.Cell Cert.Lookup

open scoped BigOperators

/-- Two halves of a value, one after the other, are a quarter of it. -/
theorem half_half (a : EReal) : a * ((1 / 2 : ℝ) : EReal) * ((1 / 2 : ℝ) : EReal) = ((1 / 4 : ℝ) : EReal) * a := by
  rw [mul_assoc, ← EReal.coe_mul, mul_comm]
  norm_num

/-- One less a half is a half. -/
theorem one_sub_half : ((1 : ℝ) : EReal) - ((1 / 2 : ℝ) : EReal) = ((1 / 2 : ℝ) : EReal) := by
  rw [← EReal.coe_sub]
  norm_num

/-- Four terms summed in two orders. -/
theorem corner_order (a b c d : EReal) : a + b + c + d = (a + c) + (b + d) := by
  rw [add_right_comm a b c, add_assoc]

/-- The four corners of batch `b`'s planes around the middle, at their weights, over the planes. -/
def middle (x : Vec Ideal S8x3x128x128x32 .f32) (b : Fin 8) : Fin 32 → EReal :=
  fun d => Buffer.corners fun l i j => x (ix5 b l ⟨63 + i.val, by omega⟩ ⟨63 + j.val, by omega⟩ d)

variable (x0 : (⟨S8x4096x3, .f32⟩ : BufTy).Contents (Elt Ideal)) (x2 : (⟨S8x3x128x128x32, .f32⟩ : BufTy).Contents (Elt Ideal))
  (x3 : (⟨S8x3x4x3, .f32⟩ : BufTy).Contents (Elt Ideal)) (hC : ∀ i, x3 i = (0 : EReal))

include hC

/-- The first corner's term. -/
theorem v156_at (b : Fin 8) (l : Fin 3) (t : Fin 4096) (d : Fin 32) :
    val_main_v156 (F := Ideal) x0 x2 x3 (ix4 b l t d) = ((1 / 4 : ℝ) : EReal) * x2 (ix5 b l 63 63 d) := by
  rw [val_main_v156_apply, val_main_v154_apply, v68_at x0 x2 x3 hC, val_main_v153_apply, v33_half x0 x3 hC,
    val_main_v155_apply, v36_half x0 x3 hC]
  exact half_half _

/-- The second corner's term. -/
theorem v162_at (b : Fin 8) (l : Fin 3) (t : Fin 4096) (d : Fin 32) :
    val_main_v162 (F := Ideal) x0 x2 x3 (ix4 b l t d) = ((1 / 4 : ℝ) : EReal) * x2 (ix5 b l 64 63 d) := by
  rw [val_main_v162_apply, val_main_v160_apply, v96_at x0 x2 x3 hC, val_main_v159_apply, val_main_v158_apply, val_main_v157_apply,
    val_main_cst_35_apply, v33_half x0 x3 hC, val_main_v161_apply, v36_half x0 x3 hC, Ideal.subf_def, Ideal.ofBits_def, one_ofBits,
    one_sub_half]
  exact half_half _

/-- The third corner's term. -/
theorem v169_at (b : Fin 8) (l : Fin 3) (t : Fin 4096) (d : Fin 32) :
    val_main_v169 (F := Ideal) x0 x2 x3 (ix4 b l t d) = ((1 / 4 : ℝ) : EReal) * x2 (ix5 b l 63 64 d) := by
  rw [val_main_v169_apply, val_main_v165_apply, v124_at x0 x2 x3 hC, val_main_v164_apply, v33_half x0 x3 hC, val_main_v168_apply,
    val_main_v167_apply, val_main_v166_apply, val_main_cst_36_apply, v36_half x0 x3 hC, Ideal.subf_def, Ideal.ofBits_def, one_ofBits,
    one_sub_half]
  exact half_half _

/-- The fourth corner's term. -/
theorem v178_at (b : Fin 8) (l : Fin 3) (t : Fin 4096) (d : Fin 32) :
    val_main_v178 (F := Ideal) x0 x2 x3 (ix4 b l t d) = ((1 / 4 : ℝ) : EReal) * x2 (ix5 b l 64 64 d) := by
  rw [val_main_v178_apply, val_main_v174_apply, v152_at x0 x2 x3 hC, val_main_v173_apply, val_main_v172_apply, val_main_v171_apply,
    val_main_cst_37_apply, v33_half x0 x3 hC, val_main_v177_apply, val_main_v176_apply, val_main_v175_apply, val_main_cst_38_apply,
    v36_half x0 x3 hC, Ideal.subf_def, Ideal.ofBits_def, one_ofBits, one_sub_half]
  exact half_half _

/-- The features of a point are those of the middle of its batch's planes. -/
theorem v180_at (b : Fin 8) (t : Fin 4096) (d : Fin 32) :
    val_main_v180 (F := Ideal) x0 x2 x3 (ix3 b t d) = middle x2 b d := by
  rw [val_main_v180_apply, val_main_cst_39_apply, Ideal.ofBits_def, zero_ofBits, zero_add]
  unfold middle Buffer.corners
  refine Finset.sum_congr rfl fun l _ => ?_
  rw [show idx_main_v180 (ix3 b t d) l = ix4 b l t d from by funext a; fin_cases a <;> rfl]
  rw [val_main_v179_apply, val_main_v170_apply, val_main_v163_apply, v156_at x0 x2 x3 hC, v162_at x0 x2 x3 hC, v169_at x0 x2 x3 hC,
    v178_at x0 x2 x3 hC]
  simp only [Ideal.addf_def, Fin.sum_univ_two]
  exact corner_order _ _ _ _

end Cert.Planes

end
-- ==== Proof.Stages.lean ====
/- The reference's layers over any input, read at a point, where the bias is zero; and its blocks as those layers. -/
module

public import proofs.«01_k».proof.Proof.Planes

@[expose] public section

set_option maxRecDepth 16384

noncomputable section

namespace Cert.Stages

open Idealize.ShloMosaic Idealize.ShloMosaic.Pointwise Cert.ReferenceIdeal Cert.ReferenceIdeal.Gen Cert.ReferenceIdeal.Read Cert.Cell Cert.Decoder

open scoped BigOperators

/-- The embedding of the points. -/
def embedV (x : FVec Ideal S8x4096x3 .f32) (W : FVec Ideal S256x3 .f32) (v : FVec Ideal S256 .f32) : FVec Ideal S8x4096x256 .f32 :=
  addf (Host.dotGeneral (φ₁ := .f32) (φ₂ := .f32) dot_S8x4096x3_S256x3_S8x4096x256_2_1_01_0_n_n none x W) (val_main_v183 (F := Ideal) v)

/-- A product that narrows to 32 channels. -/
def narrowV (x : FVec Ideal S8x4096x256 .f32) (W : FVec Ideal S32x256 .f32) : FVec Ideal S8x4096x32 .f32 :=
  Host.dotGeneral (φ₁ := .f32) (φ₂ := .f32) dot_S8x4096x256_S256x32_S8x4096x32_2_0_01_1_n_n none x (val_main_v186 (F := Ideal) W)

/-- A layer of 32 channels over the positive part of its input. -/
def layerV (x : FVec Ideal S8x4096x32 .f32) (W : FVec Ideal S32x32 .f32) (v : FVec Ideal S32 .f32) : FVec Ideal S8x4096x32 .f32 :=
  addf (Host.dotGeneral (φ₁ := .f32) (φ₂ := .f32) dot_S8x4096x32_S32x32_S8x4096x32_2_0_01_1_n_n none
    (maximumf x (val_main_call1_v0 (F := Ideal))) (val_main_v192 (F := Ideal) W)) (val_main_v195 (F := Ideal) v)

/-- The first block and the features. -/
def firstV (cf : FVec Ideal S8x4096x32 .f32) (x : FVec Ideal S8x4096x256 .f32) (A : FVec Ideal S32x256 .f32) (u : FVec Ideal S32 .f32)
    (B : FVec Ideal S32x32 .f32) (v : FVec Ideal S32 .f32) (C : FVec Ideal S32x256 .f32) : FVec Ideal S8x4096x32 .f32 :=
  addf (addf (narrowV x C) (layerV (addf (narrowV (maximumf x (val_main_call0_v0 (F := Ideal))) A) (val_main_v189 (F := Ideal) u)) B v)) cf

/-- A later block and the features. -/
def blockV (cf x : FVec Ideal S8x4096x32 .f32) (A : FVec Ideal S32x32 .f32) (u : FVec Ideal S32 .f32) (B : FVec Ideal S32x32 .f32)
    (v : FVec Ideal S32 .f32) : FVec Ideal S8x4096x32 .f32 :=
  addf (addf x (layerV (layerV x A u) B v)) cf

/-- The output layer. -/
def outV (x : FVec Ideal S8x4096x32 .f32) (W : FVec Ideal S1x32 .f32) (v : FVec Ideal S1 .f32) : FVec Ideal S8x4096x1 .f32 :=
  addf (Host.dotGeneral (φ₁ := .f32) (φ₂ := .f32) dot_S8x4096x32_S1x32_S8x4096x1_2_1_01_0_n_n none
    (maximumf x (val_main_call10_v0 (F := Ideal))) W) (val_main_v260 (F := Ideal) v)

variable (b : Fin 8) (t : Fin 4096)

/-- The embedding of a point. -/
theorem embedV_at (x : FVec Ideal S8x4096x3 .f32) (W : FVec Ideal S256x3 .f32) (v : FVec Ideal S256 .f32) (hv : ∀ i, v i = (0 : EReal))
    (h : Fin 256) : embedV x W v (ix3 b t h) = lin (fun h d => W (ix2 h d)) (fun d => x (ix3 b t d)) h := by
  pointwise [embedV, val_main_v183_apply, val_main_v182_apply, hv]
  rfl

/-- A narrowing product at a point. -/
theorem narrowV_at (x : FVec Ideal S8x4096x256 .f32) (W : FVec Ideal S32x256 .f32) (net : Fin 256 → EReal)
    (hn : ∀ h, x (ix3 b t h) = net h) (o : Fin 32) : narrowV x W (ix3 b t o) = lin (fun o h => W (ix2 o h)) net o := by
  pointwise [narrowV, val_main_v186]
  simp only [hn]
  rfl

/-- A layer of 32 channels at a point. -/
theorem layerV_at (x : FVec Ideal S8x4096x32 .f32) (W : FVec Ideal S32x32 .f32) (v : FVec Ideal S32 .f32) (hv : ∀ i, v i = (0 : EReal))
    (net : Fin 32 → EReal) (hn : ∀ d, x (ix3 b t d) = net d) (o : Fin 32) :
    layerV x W v (ix3 b t o) = lin (fun o d => W (ix2 o d)) (relu net) o := by
  pointwise [layerV, val_main_v195_apply, val_main_v194_apply, hv, val_main_call1_v0_apply, val_main_call1_cst_apply, val_main_v192]
  simp only [hn]
  rfl

/-- The positive part of an embedding at a point. -/
theorem relu_at (x : FVec Ideal S8x4096x256 .f32) (emb : Fin 256 → EReal) (hn : ∀ h, x (ix3 b t h) = emb h) (h : Fin 256) :
    maximumf x (val_main_call0_v0 (F := Ideal)) (ix3 b t h) = relu emb h := by
  pointwise [val_main_call0_v0_apply, val_main_call0_cst_apply]
  rw [hn]
  rfl

/-- The first block at a point. -/
theorem firstV_at (cf : FVec Ideal S8x4096x32 .f32) (x : FVec Ideal S8x4096x256 .f32) (A : FVec Ideal S32x256 .f32)
    (u : FVec Ideal S32 .f32) (B : FVec Ideal S32x32 .f32) (v : FVec Ideal S32 .f32) (C : FVec Ideal S32x256 .f32)
    (hu : ∀ i, u i = (0 : EReal)) (hv : ∀ i, v i = (0 : EReal)) (c : Fin 32 → EReal) (hc : ∀ d, cf (ix3 b t d) = c d) (emb : Fin 256 → EReal)
    (hn : ∀ h, x (ix3 b t h) = emb h) (o : Fin 32) :
    firstV cf x A u B v C (ix3 b t o) = lin (fun o h => C (ix2 o h)) emb o
      + lin (fun o d => B (ix2 o d)) (relu (lin (fun o h => A (ix2 o h)) (relu emb))) o + c o := by
  have ha : ∀ d, addf (narrowV (maximumf x (val_main_call0_v0 (F := Ideal))) A) (val_main_v189 (F := Ideal) u) (ix3 b t d)
      = lin (fun o h => A (ix2 o h)) (relu emb) d := fun d => by
    refine Eq.trans ?_ (add_zero _)
    refine congrArg₂ (· + ·) (narrowV_at b t _ A _ (relu_at b t x emb hn) d) ?_
    rw [val_main_v189_apply, val_main_v188_apply, hu]
  exact congrArg₂ (· + ·) (congrArg₂ (· + ·) (narrowV_at b t x C emb hn o) (layerV_at b t _ B v hv _ ha o)) (hc o)

/-- A later block at a point. -/
theorem blockV_at (cf x : FVec Ideal S8x4096x32 .f32) (A : FVec Ideal S32x32 .f32) (u : FVec Ideal S32 .f32) (B : FVec Ideal S32x32 .f32)
    (v : FVec Ideal S32 .f32) (hu : ∀ i, u i = (0 : EReal)) (hv : ∀ i, v i = (0 : EReal)) (c : Fin 32 → EReal)
    (hc : ∀ d, cf (ix3 b t d) = c d) (net : Fin 32 → EReal) (hn : ∀ d, x (ix3 b t d) = net d) (o : Fin 32) :
    blockV cf x A u B v (ix3 b t o) = block (fun o d => A (ix2 o d)) (fun o d => B (ix2 o d)) c net o :=
  congrArg₂ (· + ·) (congrArg₂ (· + ·) (hn o) (layerV_at b t _ B v hv _ (layerV_at b t x A u hu net hn) o)) (hc o)

/-- The output layer at a point. -/
theorem outV_at (x : FVec Ideal S8x4096x32 .f32) (W : FVec Ideal S1x32 .f32) (v : FVec Ideal S1 .f32) (hv : ∀ i, v i = (0 : EReal))
    (net : Fin 32 → EReal) (hn : ∀ d, x (ix3 b t d) = net d) : outV x W v (ix3 b t 0) = ∑ d, relu net d * W (ix2 0 d) := by
  pointwise [outV, val_main_v260_apply, val_main_v259_apply, hv, val_main_call10_v0_apply, val_main_call10_cst_apply]
  simp only [hn]
  rfl

/-- The result has the output layer's one column taken away. -/
theorem column_at (y : FVec Ideal S8x4096x1 .f32) : shapeCast S8x4096 y shapeCasts_S8x4096x1_S8x4096 (ix2 b t) = y (ix3 b t 0) := by
  pointwise

end Cert.Stages

end
-- ==== Proof.Reference.lean ====
/- The reference's result as a function of its arguments, when the projections and every bias are zero. -/
module

public import proofs.«01_k».proof.Proof.Stages

@[expose] public section

set_option maxRecDepth 16384

noncomputable section

namespace Cert.Reference

open Idealize.ShloMosaic Idealize.ShloMosaic.Pointwise Cert.ReferenceIdeal Cert.ReferenceIdeal.Gen Cert.ReferenceIdeal.Read Cert.Decoder Cert.Stages

variable (x0 : (⟨S8x4096x3, .f32⟩ : BufTy).Contents (Elt Ideal))
variable (x2 : (⟨S8x3x128x128x32, .f32⟩ : BufTy).Contents (Elt Ideal))
variable (x3 : (⟨S8x3x4x3, .f32⟩ : BufTy).Contents (Elt Ideal))
variable (x4 : (⟨S256x3, .f32⟩ : BufTy).Contents (Elt Ideal))
variable (x5 : (⟨S256, .f32⟩ : BufTy).Contents (Elt Ideal))
variable (x6 : (⟨S32x256, .f32⟩ : BufTy).Contents (Elt Ideal))
variable (x7 : (⟨S32, .f32⟩ : BufTy).Contents (Elt Ideal))
variable (x8 : (⟨S32x32, .f32⟩ : BufTy).Contents (Elt Ideal))
variable (x9 : (⟨S32, .f32⟩ : BufTy).Contents (Elt Ideal))
variable (x10 : (⟨S32x256, .f32⟩ : BufTy).Contents (Elt Ideal))
variable (x11 : (⟨S32x32, .f32⟩ : BufTy).Contents (Elt Ideal))
variable (x12 : (⟨S32, .f32⟩ : BufTy).Contents (Elt Ideal))
variable (x13 : (⟨S32x32, .f32⟩ : BufTy).Contents (Elt Ideal))
variable (x14 : (⟨S32, .f32⟩ : BufTy).Contents (Elt Ideal))
variable (x15 : (⟨S32x32, .f32⟩ : BufTy).Contents (Elt Ideal))
variable (x16 : (⟨S32, .f32⟩ : BufTy).Contents (Elt Ideal))
variable (x17 : (⟨S32x32, .f32⟩ : BufTy).Contents (Elt Ideal))
variable (x18 : (⟨S32, .f32⟩ : BufTy).Contents (Elt Ideal))
variable (x19 : (⟨S32x32, .f32⟩ : BufTy).Contents (Elt Ideal))
variable (x20 : (⟨S32, .f32⟩ : BufTy).Contents (Elt Ideal))
variable (x21 : (⟨S32x32, .f32⟩ : BufTy).Contents (Elt Ideal))
variable (x22 : (⟨S32, .f32⟩ : BufTy).Contents (Elt Ideal))
variable (x23 : (⟨S32x32, .f32⟩ : BufTy).Contents (Elt Ideal))
variable (x24 : (⟨S32, .f32⟩ : BufTy).Contents (Elt Ideal))
variable (x25 : (⟨S32x32, .f32⟩ : BufTy).Contents (Elt Ideal))
variable (x26 : (⟨S32, .f32⟩ : BufTy).Contents (Elt Ideal))
variable (x27 : (⟨S1x32, .f32⟩ : BufTy).Contents (Elt Ideal))
variable (x28 : (⟨S1, .f32⟩ : BufTy).Contents (Elt Ideal))

/-- The result at a point: the decoder over the features of the middle of the point's planes. -/
theorem result_at (h3 : ∀ i, x3 i = (0 : EReal)) (h5 : ∀ i, x5 i = (0 : EReal)) (h7 : ∀ i, x7 i = (0 : EReal)) (h9 : ∀ i, x9 i = (0 : EReal)) (h12 : ∀ i, x12 i = (0 : EReal)) (h14 : ∀ i, x14 i = (0 : EReal)) (h16 : ∀ i, x16 i = (0 : EReal)) (h18 : ∀ i, x18 i = (0 : EReal)) (h20 : ∀ i, x20 i = (0 : EReal)) (h22 : ∀ i, x22 i = (0 : EReal)) (h24 : ∀ i, x24 i = (0 : EReal)) (h26 : ∀ i, x26 i = (0 : EReal)) (h28 : ∀ i, x28 i = (0 : EReal)) (b : Fin 8) (t : Fin 4096) :
    val_main_v262 (F := Ideal) x0 x2 x3 x4 x5 x6 x7 x8 x9 x10 x11 x12 x13 x14 x15 x16 x17 x18 x19 x20 x21 x22 x23 x24 x25 x26 x27 x28 (ix2 b t)
      = rest (Buffer.weights x4 x6 x8 x10 x11 x13 x15 x17 x19 x21 x23 x25 x27) (Planes.middle x2 b) (first (Buffer.weights x4 x6 x8 x10 x11 x13 x15 x17 x19 x21 x23 x25 x27) (Planes.middle x2 b) fun d => x0 (ix3 b t d)) := by
  have hc : ∀ d, val_main_v180 (F := Ideal) x0 x2 x3 (ix3 b t d) = Planes.middle x2 b d := Planes.v180_at x0 x2 x3 h3 b t
  have e0 := firstV_at b t (val_main_v180 (F := Ideal) x0 x2 x3) (embedV x0 x4 x5) x6 x7 x8 x9 x10 h7 h9 _ hc _ (embedV_at b t x0 x4 x5 h5)
  have e1 := blockV_at b t (val_main_v180 (F := Ideal) x0 x2 x3) _ x11 x12 x13 x14 h12 h14 _ hc _ e0
  have e2 := blockV_at b t (val_main_v180 (F := Ideal) x0 x2 x3) _ x15 x16 x17 x18 h16 h18 _ hc _ e1
  have e3 := blockV_at b t (val_main_v180 (F := Ideal) x0 x2 x3) _ x19 x20 x21 x22 h20 h22 _ hc _ e2
  have e4 := blockV_at b t (val_main_v180 (F := Ideal) x0 x2 x3) _ x23 x24 x25 x26 h24 h26 _ hc _ e3
  exact (column_at b t _).trans (outV_at b t _ x27 x28 h28 _ e4)

end Cert.Reference

end
-- ==== Proof.Claims.lean ====
/- Each claim proved: the three frames, the printed programs' agreement, and the value claim. -/
module

public import proofs.«01_k».proof.Defs
public import proofs.«01_k».proof.Proof.SetUp
public import proofs.«01_k».proof.Proof.Final
public import proofs.«01_k».proof.Proof.Reference
public import proofs.«01_k».proof.Proof.Gen.Kernel.Frame
public import Idealize.ShloMosaic.Adequacy
public import Idealize.ShloMosaic.Init

@[expose] public section

set_option maxRecDepth 16384

noncomputable section

namespace Cert.Claims

open Idealize.ShloMosaic Idealize.ShloMosaic.Pointwise Idealize.SL.Sem Cert.Decoder

/-- The kernel ends, its arguments kept, over words. -/
theorem frame_p : Cert.quiescent_Kernel := fun m ρ _ => Cert.Kernel.Gen.frame m ρ

/-- The kernel ends, its arguments kept, over the extended reals. -/
theorem frame_pi : Cert.quiescent_KernelIdeal := fun m ρ _ => Cert.KernelIdeal.Gen.frame m ρ

/-- So it does where the inputs are as set up. -/
theorem frame_pi_set_up : Cert.quiescent_KernelIdeal_pre_as_set_up := fun m ρ _ => Cert.KernelIdeal.Gen.frame m ρ

/-- The reference ends, its arguments kept. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does where the inputs are as set up. -/
theorem frame_ri_set_up : Cert.quiescent_ReferenceIdeal_pre_as_set_up := fun m ρ _ => frame_ri m ρ trivial

/-- No operation of the kernel was replaced. -/
theorem preserves : Cert.preserves_Kernel_KernelIdeal := trivial

/-- From arguments as set up, the reference's result is the array the kernel leaves. -/
theorem same (m : (ℓ : Loc Cert.KernelIdeal.nD Cert.KernelIdeal.τ Cert.KernelIdeal.sig) → Buf (Elt Ideal) ℓ) (hp : Cert.Pre_KernelIdeal_as_set_up m) (c : Dev Cert.KernelIdeal.nD) :
    Cert.ReferenceIdeal.Read.val_main_v262 (F := Ideal)
        (m ((c.tc : Thread Cert.KernelIdeal.nD Cert.KernelIdeal.τ).loc Cert.KernelIdeal.main_arg0)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        (m ((c.tc : Thread Cert.KernelIdeal.nD Cert.KernelIdeal.τ).loc Cert.KernelIdeal.main_arg9)) (m ((c.tc : Thread Cert.KernelIdeal.nD Cert.KernelIdeal.τ).loc Cert.KernelIdeal.main_arg10))
        (m ((c.tc : Thread Cert.KernelIdeal.nD Cert.KernelIdeal.τ).loc Cert.KernelIdeal.main_arg11)) (m ((c.tc : Thread Cert.KernelIdeal.nD Cert.KernelIdeal.τ).loc Cert.KernelIdeal.main_arg12))
        (m ((c.tc : Thread Cert.KernelIdeal.nD Cert.KernelIdeal.τ).loc Cert.KernelIdeal.main_arg13)) (m ((c.tc : Thread Cert.KernelIdeal.nD Cert.KernelIdeal.τ).loc Cert.KernelIdeal.main_arg14))
        (m ((c.tc : Thread Cert.KernelIdeal.nD Cert.KernelIdeal.τ).loc Cert.KernelIdeal.main_arg15)) (m ((c.tc : Thread Cert.KernelIdeal.nD Cert.KernelIdeal.τ).loc Cert.KernelIdeal.main_arg16))
        (m ((c.tc : Thread Cert.KernelIdeal.nD Cert.KernelIdeal.τ).loc Cert.KernelIdeal.main_arg17)) (m ((c.tc : Thread Cert.KernelIdeal.nD Cert.KernelIdeal.τ).loc Cert.KernelIdeal.main_arg18))
        (m ((c.tc : Thread Cert.KernelIdeal.nD Cert.KernelIdeal.τ).loc Cert.KernelIdeal.main_arg19)) (m ((c.tc : Thread Cert.KernelIdeal.nD Cert.KernelIdeal.τ).loc Cert.KernelIdeal.main_arg20))
        (m ((c.tc : Thread Cert.KernelIdeal.nD Cert.KernelIdeal.τ).loc Cert.KernelIdeal.main_arg21)) (m ((c.tc : Thread Cert.KernelIdeal.nD Cert.KernelIdeal.τ).loc Cert.KernelIdeal.main_arg22))
        (m ((c.tc : Thread Cert.KernelIdeal.nD Cert.KernelIdeal.τ).loc Cert.KernelIdeal.main_arg23)) (m ((c.tc : Thread Cert.KernelIdeal.nD Cert.KernelIdeal.τ).loc Cert.KernelIdeal.main_arg24))
        (m ((c.tc : Thread Cert.KernelIdeal.nD Cert.KernelIdeal.τ).loc Cert.KernelIdeal.main_arg25)) (m ((c.tc : Thread Cert.KernelIdeal.nD Cert.KernelIdeal.τ).loc Cert.KernelIdeal.main_arg26))
        (m ((c.tc : Thread Cert.KernelIdeal.nD Cert.KernelIdeal.τ).loc Cert.KernelIdeal.main_arg27)) (m ((c.tc : Thread Cert.KernelIdeal.nD Cert.KernelIdeal.τ).loc Cert.KernelIdeal.main_arg28))
      = (Cert.KernelIdeal.Gen.dats m 0 c).arrAt 15 Cert.KernelIdeal.cfg0.N := by
  rw [Final.final]
  funext y
  refine (congrArg _ (eq_ix2 (n0 := 8) (n1 := 4096) y)).trans ?_
  refine (Reference.result_at _ _ _ _ _ _ _ _ _ _ _ _ _ _ _ _ _ _ _ _ _ _ _ _ _ _ _ _
    (SetUp.arg3 m hp c) (SetUp.arg5 m hp c) (SetUp.arg7 m hp c) (SetUp.arg9 m hp c) (SetUp.arg12 m hp c) (SetUp.arg14 m hp c) (SetUp.arg16 m hp c) (SetUp.arg18 m hp c) (SetUp.arg20 m hp c) (SetUp.arg22 m hp c) (SetUp.arg24 m hp c) (SetUp.arg26 m hp c) (SetUp.arg28 m hp c)
    (y 0) (y 1)).trans ?_
  refine congrArg (rest _ _) ?_
  exact (firstFused_eq (Final.W m c) _ _ (fun d => SetUp.arg0 m hp c _) (fun h d => SetUp.arg4 m hp c _)
    (fun o h => SetUp.arg10 m hp c _)).symm

/-- The kernel and the reference leave the same result. -/
theorem algebraic : Cert.algebraic_KernelIdeal_ReferenceIdeal_pre_as_set_up := by
  intro m g m' g' hp ha
  refine ⟨fun c => (Cert.KernelIdeal.Gen.dats m 0 c).arrAt 15 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  refine (Cert.ReferenceIdeal.Read.val_main_v262_eq _).trans ?_
  obtain ⟨a0, a1, a2, a3, a4, a5, a6, a7, a8, a9, a10, a11, a12, a13, a14, a15, a16, a17, a18, a19, a20, a21, a22, a23, a24, a25, a26, a27, a28⟩ := ha c
  refine Eq.trans ?_ (same m hp c)
  rw [← a0, ← a2, ← a3, ← a4, ← a5, ← a6, ← a7, ← a8, ← a9, ← a10, ← a11, ← a12, ← a13, ← a14, ← a15, ← a16, ← a17, ← a18, ← a19, ← a20, ← a21, ← a22, ← a23, ← a24, ← a25, ← a26, ← a27, ← a28]

end Cert.Claims

end
-- ==== Proof.lean ====
module

public import proofs.«01_k».proof.Defs
public import proofs.«01_k».proof.Proof.Claims

@[expose] public section

noncomputable section

namespace Cert.Proof

/-- Every claim of the certificate holds. -/
theorem claim : Cert.Claim :=
  ⟨Cert.Kernel.Gen.facts, Cert.KernelIdeal.Gen.facts, Cert.ReferenceIdeal.Gen.facts, Cert.SetUp.facts,
    Cert.Claims.frame_p, Cert.Claims.frame_pi, Cert.Claims.frame_pi_set_up, Cert.Claims.frame_ri, Cert.Claims.frame_ri_set_up,
    Cert.Claims.preserves, Cert.Claims.algebraic⟩

end Cert.Proof

end
